-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S65536x3840 : Shape := ⟨2, ![65536, 3840]⟩
abbrev S256x3840 : Shape := ⟨2, ![256, 3840]⟩
abbrev S8x15x31 : Shape := ⟨3, ![8, 15, 31]⟩
abbrev S_ : Shape := ⟨0, ![]⟩

class Facts : Prop where
  bcast_S_S65536x3840 : S_.BroadcastsInDim S65536x3840 (![] : Fin 0 → Fin S65536x3840.rank)
  reducesTo_S65536x3840_S_d0_1 : S65536x3840.ReducesTo [0, 1] S_
  h_S_ : 0 < S_.numel
  bcast_S_S256x3840 : S_.BroadcastsInDim S256x3840 (![] : Fin 0 → Fin S256x3840.rank)
  reducesTo_S256x3840_S_d0_1 : S256x3840.ReducesTo [0, 1] S_
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S65536x3840 .f32) (main_arg1 : FVec F S256x3840 .f32) (main_arg2 : FVec F S8x15x31 .f32) : IVec S_ 1 :=
  let main_v0 : FVec F S65536x3840 .f32 := Host.absf main_arg0
  let main_cst : FVec F S_ .f32 := constant S_ .f32 0x7F800000#32
  let main_v1 : FVec F S65536x3840 .f32 := broadcastInDim S65536x3840 ![] bcast_S_S65536x3840 main_cst
  let main_v2 : IVec S65536x3840 1 := cmpf .olt main_v0 main_v1
  let main_c : IVec S_ 1 := constantI S_ 1 1#1
  let main_v3 : IVec S_ 1 := (fun x v => Host.reduce IntOp.andi x v reducesTo_S65536x3840_S_d0_1 h_S_) main_v2 main_c
  let main_v4 : FVec F S256x3840 .f32 := Host.absf main_arg1
  let main_cst_0 : FVec F S_ .f32 := constant S_ .f32 0x7F800000#32
  let main_v5 : FVec F S256x3840 .f32 := broadcastInDim S256x3840 ![] bcast_S_S256x3840 main_cst_0
  let main_v6 : IVec S256x3840 1 := cmpf .olt main_v4 main_v5
  let main_c_1 : IVec S_ 1 := constantI S_ 1 1#1
  let main_v7 : IVec S_ 1 := (fun x v => Host.reduce IntOp.andi x v reducesTo_S256x3840_S_d0_1 h_S_) main_v6 main_c_1
  let main_v8 : IVec S_ 1 := andi main_v3 main_v7
  let main_v9 : FVec F S8x15x31 .f32 := Host.absf main_arg2
  let main_cst_2 : FVec F S_ .f32 := constant S_ .f32 0x7F800000#32
  let main_v10 : FVec F S8x15x31 .f32 := broadcastInDim S8x15x31 ![] bcast_S_S8x15x31 main_cst_2
  let main_v11 : IVec S8x15x31 1 := cmpf .olt main_v9 main_v10
  let main_c_3 : IVec S_ 1 := constantI S_ 1 1#1
  let main_v12 : IVec S_ 1 := (fun x v => Host.reduce IntOp.andi x v reducesTo_S8x15x31_S_d0_1_2 h_S_) main_v11 main_c_3
  let main_v13 : IVec S_ 1 := andi main_v8 main_v12
  main_v13
-- ==== Kernel.lean ====
abbrev S65536x3840 : Shape := ⟨2, ![65536, 3840]⟩
abbrev S256x3840 : Shape := ⟨2, ![256, 3840]⟩
abbrev S8x15x31 : Shape := ⟨3, ![8, 15, 31]⟩
abbrev S64x64 : Shape := ⟨2, ![64, 64]⟩
abbrev S144 : Shape := ⟨1, ![144]⟩
abbrev S65536x512 : Shape := ⟨2, ![65536, 512]⟩
abbrev S256x256x4x128 : Shape := ⟨4, ![256, 256, 4, 128]⟩
abbrev S256x4x128x256 : Shape := ⟨4, ![256, 4, 128, 256]⟩
abbrev S_ : Shape := ⟨0, ![]⟩
abbrev S256x4x16x256 : Shape := ⟨4, ![256, 4, 16, 256]⟩
abbrev S256x4x144x256 : Shape := ⟨4, ![256, 4, 144, 256]⟩
abbrev S256x576x256 : Shape := ⟨3, ![256, 576, 256]⟩
abbrev S256x512 : Shape := ⟨2, ![256, 512]⟩
abbrev S16x16x4x128 : Shape := ⟨4, ![16, 16, 4, 128]⟩
abbrev S16x4x128x16 : Shape := ⟨4, ![16, 4, 128, 16]⟩
abbrev S16x4x16x16 : Shape := ⟨4, ![16, 4, 16, 16]⟩
abbrev S16x4x144x16 : Shape := ⟨4, ![16, 4, 144, 16]⟩
abbrev S16x576x16 : Shape := ⟨3, ![16, 576, 16]⟩
abbrev S8x15x127 : Shape := ⟨3, ![8, 15, 127]⟩
abbrev S8x15x1 : Shape := ⟨3, ![8, 15, 1]⟩
abbrev S8x15x128 : Shape := ⟨3, ![8, 15, 128]⟩
abbrev S1x8x1x15x1x128 : Shape := ⟨6, ![1, 8, 1, 15, 1, 128]⟩
abbrev S1x8x1x15x64x128 : Shape := ⟨6, ![1, 8, 1, 15, 64, 128]⟩
abbrev S8x15x8192 : Shape := ⟨3, ![8, 15, 8192]⟩
abbrev S8x15x8128 : Shape := ⟨3, ![8, 15, 8128]⟩
abbrev S8x15x64x127 : Shape := ⟨4, ![8, 15, 64, 127]⟩
abbrev S8x15x64x64 : Shape := ⟨4, ![8, 15, 64, 64]⟩
abbrev S1x1x64x64 : Shape := ⟨4, ![1, 1, 64, 64]⟩
abbrev S8x1x64x64 : Shape := ⟨4, ![8, 1, 64, 64]⟩
abbrev S8x16x64x64 : Shape := ⟨4, ![8, 16, 64, 64]⟩
abbrev S144x1 : Shape := ⟨2, ![144, 1]⟩
abbrev S1 : Shape := ⟨1, ![1]⟩
abbrev S1x1 : Shape := ⟨2, ![1, 1]⟩
abbrev S8x144x64x64 : Shape := ⟨4, ![8, 144, 64, 64]⟩
abbrev S8x3x4x12x64x64 : Shape := ⟨6, ![8, 3, 4, 12, 64, 64]⟩
abbrev S3x8x12x64x4x64 : Shape := ⟨6, ![3, 8, 12, 64, 4, 64]⟩
abbrev S3x8x768x256 : Shape := ⟨4, ![3, 8, 768, 256]⟩
abbrev S1024x512 : Shape := ⟨2, ![1024, 512]⟩
abbrev S4096x512 : Shape := ⟨2, ![4096, 512]⟩
abbrev S16x576x256 : Shape := ⟨3, ![16, 576, 256]⟩
abbrev S16x512 : Shape := ⟨2, ![16, 512]⟩
abbrev S1x576x16 : Shape := ⟨3, ![1, 576, 16]⟩
abbrev S768x512 : Shape := ⟨2, ![768, 512]⟩
abbrev S256x128 : Shape := ⟨2, ![256, 128]⟩
abbrev S512x128 : Shape := ⟨2, ![512, 128]⟩
abbrev S768x128 : Shape := ⟨2, ![768, 128]⟩
abbrev S1x1x768x256 : Shape := ⟨4, ![1, 1, 768, 256]⟩
abbrev S768x256 : Shape := ⟨2, ![768, 256]⟩
abbrev S16x128 : Shape := ⟨2, ![16, 128]⟩
abbrev S512 : Shape := ⟨1, ![512]⟩
abbrev S1x512 : Shape := ⟨2, ![1, 512]⟩
abbrev S1x144x16 : Shape := ⟨3, ![1, 144, 16]⟩
abbrev S144x16 : Shape := ⟨2, ![144, 16]⟩
abbrev S144x512 : Shape := ⟨2, ![144, 512]⟩
abbrev S1x144x256 : Shape := ⟨3, ![1, 144, 256]⟩
abbrev S144x256 : Shape := ⟨2, ![144, 256]⟩
abbrev S128x512 : Shape := ⟨2, ![128, 512]⟩
abbrev S128x256 : Shape := ⟨2, ![128, 256]⟩

abbrev nBuf : Space → Nat
  | .hbm => 69
  | .vmem => 17
  | .smem => 0
  | _ => 0

abbrev bufTy : (tb : Table) → Fin (tcTables nBuf tb) → BufTy
  | .hbm, ⟨0, _⟩ => ⟨S65536x3840, .f32⟩
  | .hbm, ⟨1, _⟩ => ⟨S256x3840, .f32⟩
  | .hbm, ⟨2, _⟩ => ⟨S8x15x31, .f32⟩
  | .hbm, ⟨3, _⟩ => ⟨S64x64, .i1⟩
  | .hbm, ⟨4, _⟩ => ⟨S144, .i32⟩
  | .hbm, ⟨5, _⟩ => ⟨S65536x3840, .bf16⟩
  | .hbm, ⟨6, _⟩ => ⟨S256x3840, .bf16⟩
  | .hbm, ⟨7, _⟩ => ⟨S65536x512, .bf16⟩
  | .hbm, ⟨8, _⟩ => ⟨S256x256x4x128, .bf16⟩
  | .hbm, ⟨9, _⟩ => ⟨S256x4x128x256, .bf16⟩
  | .hbm, ⟨10, _⟩ => ⟨S_, .bf16⟩
  | .hbm, ⟨11, _⟩ => ⟨S256x4x16x256, .bf16⟩
  | .hbm, ⟨12, _⟩ => ⟨S256x4x144x256, .bf16⟩
  | .hbm, ⟨13, _⟩ => ⟨S256x576x256, .bf16⟩
  | .hbm, ⟨14, _⟩ => ⟨S256x512, .bf16⟩
  | .hbm, ⟨15, _⟩ => ⟨S16x16x4x128, .bf16⟩
  | .hbm, ⟨16, _⟩ => ⟨S16x4x128x16, .bf16⟩
  | .hbm, ⟨17, _⟩ => ⟨S_, .bf16⟩
  | .hbm, ⟨18, _⟩ => ⟨S16x4x16x16, .bf16⟩
  | .hbm, ⟨19, _⟩ => ⟨S16x4x144x16, .bf16⟩
  | .hbm, ⟨20, _⟩ => ⟨S16x576x16, .bf16⟩
  | .hbm, ⟨21, _⟩ => ⟨S_, .i32⟩
  | .hbm, ⟨22, _⟩ => ⟨S_, .f32⟩
  | .hbm, ⟨23, _⟩ => ⟨S8x15x127, .f32⟩
  | .hbm, ⟨24, _⟩ => ⟨S_, .f32⟩
  | .hbm, ⟨25, _⟩ => ⟨S8x15x1, .f32⟩
  | .hbm, ⟨26, _⟩ => ⟨S8x15x128, .f32⟩
  | .hbm, ⟨27, _⟩ => ⟨S1x8x1x15x1x128, .f32⟩
  | .hbm, ⟨28, _⟩ => ⟨S1x8x1x15x64x128, .f32⟩
  | .hbm, ⟨29, _⟩ => ⟨S8x15x8192, .f32⟩
  | .hbm, ⟨30, _⟩ => ⟨S8x15x8128, .f32⟩
  | .hbm, ⟨31, _⟩ => ⟨S8x15x64x127, .f32⟩
  | .hbm, ⟨32, _⟩ => ⟨S8x15x64x64, .f32⟩
  | .hbm, ⟨33, _⟩ => ⟨S1x1x64x64, .i1⟩
  | .hbm, ⟨34, _⟩ => ⟨S_, .f32⟩
  | .hbm, ⟨35, _⟩ => ⟨S_, .f32⟩
  | .hbm, ⟨36, _⟩ => ⟨S8x15x64x64, .i1⟩
  | .hbm, ⟨37, _⟩ => ⟨S8x15x64x64, .f32⟩
  | .hbm, ⟨38, _⟩ => ⟨S8x15x64x64, .f32⟩
  | .hbm, ⟨39, _⟩ => ⟨S_, .f32⟩
  | .hbm, ⟨40, _⟩ => ⟨S8x1x64x64, .f32⟩
  | .hbm, ⟨41, _⟩ => ⟨S8x16x64x64, .f32⟩
  | .hbm, ⟨42, _⟩ => ⟨S_, .i32⟩
  | .hbm, ⟨43, _⟩ => ⟨S144, .i32⟩
  | .hbm, ⟨44, _⟩ => ⟨S144, .i1⟩
  | .hbm, ⟨45, _⟩ => ⟨S_, .i32⟩
  | .hbm, ⟨46, _⟩ => ⟨S144, .i32⟩
  | .hbm, ⟨47, _⟩ => ⟨S144, .i32⟩
  | .hbm, ⟨48, _⟩ => ⟨S144, .i32⟩
  | .hbm, ⟨49, _⟩ => ⟨S144x1, .i32⟩
  | .hbm, ⟨50, _⟩ => ⟨S1, .i32⟩
  | .hbm, ⟨51, _⟩ => ⟨S_, .i32⟩
  | .hbm, ⟨52, _⟩ => ⟨S144x1, .i32⟩
  | .hbm, ⟨53, _⟩ => ⟨S144x1, .i1⟩
  | .hbm, ⟨54, _⟩ => ⟨S1x1, .i32⟩
  | .hbm, ⟨55, _⟩ => ⟨S144x1, .i32⟩
  | .hbm, ⟨56, _⟩ => ⟨S144x1, .i1⟩
  | .hbm, ⟨57, _⟩ => ⟨S144x1, .i1⟩
  | .hbm, ⟨58, _⟩ => ⟨S_, .i1⟩
  | .hbm, ⟨59, _⟩ => ⟨S144, .i1⟩
  | .hbm, ⟨60, _⟩ => ⟨S8x144x64x64, .f32⟩
  | .hbm, ⟨61, _⟩ => ⟨S8x144x64x64, .i1⟩
  | .hbm, ⟨62, _⟩ => ⟨S_, .f32⟩
  | .hbm, ⟨63, _⟩ => ⟨S8x144x64x64, .f32⟩
  | .hbm, ⟨64, _⟩ => ⟨S8x144x64x64, .f32⟩
  | .hbm, ⟨65, _⟩ => ⟨S8x3x4x12x64x64, .f32⟩
  | .hbm, ⟨66, _⟩ => ⟨S3x8x12x64x4x64, .f32⟩
  | .hbm, ⟨67, _⟩ => ⟨S3x8x768x256, .f32⟩
  | .hbm, ⟨68, _⟩ => ⟨S65536x512, .bf16⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S16x576x256, .bf16⟩
  | .local _ .vmem, ⟨5, _⟩ => ⟨S16x576x256, .bf16⟩
  | .local _ .vmem, ⟨6, _⟩ => ⟨S16x512, .bf16⟩
  | .local _ .vmem, ⟨7, _⟩ => ⟨S16x512, .bf16⟩
  | .local _ .vmem, ⟨8, _⟩ => ⟨S1x576x16, .bf16⟩
  | .local _ .vmem, ⟨9, _⟩ => ⟨S1x576x16, .bf16⟩
  | .local _ .vmem, ⟨10, _⟩ => ⟨S3x8x768x256, .f32⟩
  | .local _ .vmem, ⟨11, _⟩ => ⟨S1024x512, .bf16⟩
  | .local _ .vmem, ⟨12, _⟩ => ⟨S1024x512, .bf16⟩
  | .local _ .vmem, ⟨13, _⟩ => ⟨S768x512, .f32⟩
  | .local _ .vmem, ⟨14, _⟩ => ⟨S768x512, .f32⟩
  | .local _ .vmem, ⟨15, _⟩ => ⟨S768x512, .f32⟩
  | .local _ .vmem, ⟨16, _⟩ => ⟨S768x512, .f32⟩
  | _, _ => ⟨S65536x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_call0_v0 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32 : BitVec 32 := 256#32
  let v49 : BitVec 32 := Scalar.muli v4 c256_i32
  v49
def k0_off1 (i : grid0.Coords) (c0_i32 : BitVec 32) : Fin 2 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32 : BitVec 32 := 256#32
  let v49 : BitVec 32 := Scalar.muli v4 c256_i32
  let v50 : BitVec 32 := v49
  let v51 : Index := Scalar.indexCast v50
  let c0_35 : Index := 0#32
  ![v51.toNat, 0]
def k0_off2 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v55 : Index := Scalar.indexCast v8
  let c0_37 : Index := 0#32
  let c0_38 : Index := 0#32
  let c0_39 : Index := 0#32
  ![v55.toNat, 0, 0, 0]
def k0_off3 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v58 : Index := Scalar.indexCast v8
  let c1 : Index := 1#32
  let c0_40 : Index := 0#32
  let c0_41 : Index := 0#32
  ![v58.toNat, 1, 0, 0]
def k0_mult2 (i : grid0.Coords) : BitVec 32 :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32_54 : BitVec 32 := 256#32
  let v89 : BitVec 32 := Scalar.muli v4 c256_i32_54
  v89
def k0_off4 (i : grid0.Coords) (c0_i32 : BitVec 32) : Fin 2 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32_54 : BitVec 32 := 256#32
  let v89 : BitVec 32 := Scalar.muli v4 c256_i32_54
  let v90 : BitVec 32 := v89
  let v91 : Index := Scalar.indexCast v90
  let c128_55 : Index := 128#32
  ![v91.toNat, 128]
def k0_off5 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v95 : Index := Scalar.indexCast v8
  let c2 : Index := 2#32
  let c0_57 : Index := 0#32
  let c0_58 : Index := 0#32
  ![v95.toNat, 2, 0, 0]
def k0_off6 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v98 : Index := Scalar.indexCast v8
  let c3 : Index := 3#32
  let c0_59 : Index := 0#32
  let c0_60 : Index := 0#32
  ![v98.toNat, 3, 0, 0]
def k0_mult3 (i : grid0.Coords) : BitVec 32 :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32_73 : BitVec 32 := 256#32
  let v129 : BitVec 32 := Scalar.muli v4 c256_i32_73
  v129
def k0_off7 (i : grid0.Coords) (c0_i32 : BitVec 32) : Fin 2 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32_73 : BitVec 32 := 256#32
  let v129 : BitVec 32 := Scalar.muli v4 c256_i32_73
  let v130 : BitVec 32 := v129
  let v131 : Index := Scalar.indexCast v130
  let c256_74 : Index := 256#32
  ![v131.toNat, 256]
def k0_off8 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v135 : Index := Scalar.indexCast v8
  let c4 : Index := 4#32
  let c0_76 : Index := 0#32
  let c0_77 : Index := 0#32
  ![v135.toNat, 4, 0, 0]
def k0_off9 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v138 : Index := Scalar.indexCast v8
  let c5 : Index := 5#32
  let c0_78 : Index := 0#32
  let c0_79 : Index := 0#32
  ![v138.toNat, 5, 0, 0]
def k0_mult4 (i : grid0.Coords) : BitVec 32 :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32_92 : BitVec 32 := 256#32
  let v169 : BitVec 32 := Scalar.muli v4 c256_i32_92
  v169
def k0_off10 (i : grid0.Coords) (c0_i32 : BitVec 32) : Fin 2 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let c256_i32_92 : BitVec 32 := 256#32
  let v169 : BitVec 32 := Scalar.muli v4 c256_i32_92
  let v170 : BitVec 32 := v169
  let v171 : Index := Scalar.indexCast v170
  let c384_93 : Index := 384#32
  ![v171.toNat, 384]
def k0_off11 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v175 : Index := Scalar.indexCast v8
  let c6 : Index := 6#32
  let c0_95 : Index := 0#32
  let c0_96 : Index := 0#32
  ![v175.toNat, 6, 0, 0]
def k0_off12 (i : grid0.Coords) (c0_i32 : BitVec 32) : Fin 4 → Nat :=
  let c4_i32 : BitVec 32 := 4#32
  let arg1 : BitVec 32 := BitVec.ofNat 32 (i 1).val
  let v0 : BitVec 32 := Scalar.muli c4_i32 arg1
  let v1 : BitVec 32 := Scalar.addi v0 c0_i32
  let c0_i32_1 : BitVec 32 := 0#32
  let v5 : BitVec 1 := Scalar.cmpi .eq v1 c0_i32_1
  let c0_i32_3 : BitVec 32 := 0#32
  let c15_i32 : BitVec 32 := 15#32
  let v6 : BitVec 1 := Scalar.cmpi .eq v1 c15_i32
  let c2_i32 : BitVec 32 := 2#32
  let c1_i32_2 : BitVec 32 := 1#32
  let v7 : BitVec 32 := Scalar.select v6 c2_i32 c1_i32_2
  let v8 : BitVec 32 := Scalar.select v5 c0_i32_3 v7
  let v178 : Index := Scalar.indexCast v8
  let c7 : Index := 7#32
  let c0_97 : Index := 0#32
  let c0_98 : Index := 0#32
  ![v178.toNat, 7, 0, 0]
def k0_off13 (i : grid0.Coords) (c0_i32 : BitVec 32) (c0_i32_113 : BitVec 32) : Fin 3 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let v208 : BitVec 32 := Scalar.addi v4 c0_i32_113
  let v209 : Index := Scalar.indexCast v208
  let c0_114 : Index := 0#32
  let c0_115 : Index := 0#32
  ![v209.toNat, 0, 0]
def k0_mult5 (i : grid0.Coords) : BitVec 32 :=
  let c13_i32_8 : BitVec 32 := 13#32
  let c0_i32_7 : BitVec 32 := 0#32
  let c4_i32_4 : BitVec 32 := 4#32
  let arg1 : BitVec 32 := BitVec.ofNat 32 (i 1).val
  let v9 : BitVec 32 := Scalar.muli c4_i32_4 arg1
  let c1_i32_5 : BitVec 32 := 1#32
  let v10 : BitVec 32 := Scalar.addi v9 c1_i32_5
  let c1_i32_6 : BitVec 32 := 1#32
  let v11 : BitVec 32 := Scalar.subi v10 c1_i32_6
  let v12 : BitVec 32 := Scalar.maxsi c0_i32_7 v11
  let v13 : BitVec 32 := Scalar.minsi c13_i32_8 v12
  let c256_i32_136 : BitVec 32 := 256#32
  let v262 : BitVec 32 := Scalar.muli v13 c256_i32_136
  v262
def k0_off14 (i : grid0.Coords) (c0_i32 : BitVec 32) (c0_i32_158 : BitVec 32) : Fin 3 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let v301 : BitVec 32 := Scalar.addi v4 c0_i32_158
  let v302 : Index := Scalar.indexCast v301
  let c144_159 : Index := 144#32
  let c0_160 : Index := 0#32
  ![v302.toNat, 144, 0]
def k0_mult6 (i : grid0.Coords) : BitVec 32 :=
  let c13_i32_8 : BitVec 32 := 13#32
  let c0_i32_7 : BitVec 32 := 0#32
  let c4_i32_4 : BitVec 32 := 4#32
  let arg1 : BitVec 32 := BitVec.ofNat 32 (i 1).val
  let v9 : BitVec 32 := Scalar.muli c4_i32_4 arg1
  let c1_i32_5 : BitVec 32 := 1#32
  let v10 : BitVec 32 := Scalar.addi v9 c1_i32_5
  let c1_i32_6 : BitVec 32 := 1#32
  let v11 : BitVec 32 := Scalar.subi v10 c1_i32_6
  let v12 : BitVec 32 := Scalar.maxsi c0_i32_7 v11
  let v13 : BitVec 32 := Scalar.minsi c13_i32_8 v12
  let c256_i32_182 : BitVec 32 := 256#32
  let v355 : BitVec 32 := Scalar.muli v13 c256_i32_182
  v355
def k0_off15 (i : grid0.Coords) (c0_i32 : BitVec 32) (c0_i32_204 : BitVec 32) : Fin 3 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let v394 : BitVec 32 := Scalar.addi v4 c0_i32_204
  let v395 : Index := Scalar.indexCast v394
  let c288_205 : Index := 288#32
  let c0_206 : Index := 0#32
  ![v395.toNat, 288, 0]
def k0_mult7 (i : grid0.Coords) : BitVec 32 :=
  let c13_i32_8 : BitVec 32 := 13#32
  let c0_i32_7 : BitVec 32 := 0#32
  let c4_i32_4 : BitVec 32 := 4#32
  let arg1 : BitVec 32 := BitVec.ofNat 32 (i 1).val
  let v9 : BitVec 32 := Scalar.muli c4_i32_4 arg1
  let c1_i32_5 : BitVec 32 := 1#32
  let v10 : BitVec 32 := Scalar.addi v9 c1_i32_5
  let c1_i32_6 : BitVec 32 := 1#32
  let v11 : BitVec 32 := Scalar.subi v10 c1_i32_6
  let v12 : BitVec 32 := Scalar.maxsi c0_i32_7 v11
  let v13 : BitVec 32 := Scalar.minsi c13_i32_8 v12
  let c256_i32_228 : BitVec 32 := 256#32
  let v448 : BitVec 32 := Scalar.muli v13 c256_i32_228
  v448
def k0_off16 (i : grid0.Coords) (c0_i32 : BitVec 32) (c0_i32_250 : BitVec 32) : Fin 3 → Nat :=
  let c13_i32 : BitVec 32 := 13#32
  let c0_i32_0 : BitVec 32 := 0#32
  let c4_i32 : BitVec 32 := 4#32
  let arg1 : BitVec 32 := BitVec.ofNat 32 (i 1).val
  let v0 : BitVec 32 := Scalar.muli c4_i32 arg1
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c13_i32 v3
  let v487 : BitVec 32 := Scalar.addi v4 c0_i32_250
  let v488 : Index := Scalar.indexCast v487
  let c432_251 : Index := 432#32
  let c0_252 : Index := 0#32
  ![v488.toNat, 432, 0]
def k0_mult8 (i : grid0.Coords) : BitVec 32 :=
  let c13_i32_8 : BitVec 32 := 13#32
  let c0_i32_7 : BitVec 32 := 0#32
  let c4_i32_4 : BitVec 32 := 4#32
  let arg1 : BitVec 32 := BitVec.ofNat 32 (i 1).val
  let v9 : BitVec 32 := Scalar.muli c4_i32_4 arg1
  let c1_i32_5 : BitVec 32 := 1#32
  let v10 : BitVec 32 := Scalar.addi v9 c1_i32_5
  let c1_i32_6 : BitVec 32 := 1#32
  let v11 : BitVec 32 := Scalar.subi v10 c1_i32_6
  let v12 : BitVec 32 := Scalar.maxsi c0_i32_7 v11
  let v13 : BitVec 32 := Scalar.minsi c13_i32_8 v12
  let c256_i32_274 : BitVec 32 := 256#32
  let v541 : BitVec 32 := Scalar.muli v13 c256_i32_274
  v541
def k0_mult9 (i : grid0.Coords) : BitVec 32 :=
  let c13_i32_18 : BitVec 32 := 13#32
  let c0_i32_17 : BitVec 32 := 0#32
  let c4_i32_14 : BitVec 32 := 4#32
  let arg1 : BitVec 32 := BitVec.ofNat 32 (i 1).val
  let v18 : BitVec 32 := Scalar.muli c4_i32_14 arg1
  let c2_i32_15 : BitVec 32 := 2#32
  let v19 : BitVec 32 := Scalar.addi v18 c2_i32_15
  let c1_i32_16 : BitVec 32 := 1#32
  let v20 : BitVec 32 := Scalar.subi v19 c1_i32_16
  let v21 : BitVec 32 := Scalar.maxsi c0_i32_17 v20
  let v22 : BitVec 32 := Scalar.minsi c13_i32_18 v21
  let c256_i32_321 : BitVec 32 := 256#32
  let v634 : BitVec 32 := Scalar.muli v22 c256_i32_321
  v634
def k0_mult10 (i : grid0.Coords) : BitVec 32 :=
  let c13_i32_18 : BitVec 32 := 13#32
  let c0_i32_17 : BitVec 32 := 0#32
  let c4_i32_14 : BitVec 32 := 4#32
  let arg1 : BitVec 32 := BitVec.ofNat 32 (i 1).val
  let v18 : BitVec 32 := Scalar.muli c4_i32_14 arg1
  let c2_i32_15 : BitVec 32 := 2#32
  let v19 : BitVec 32 := Scalar.addi v18 c2_i32_15
  let c1_i32_16 : BitVec 32 := 1#32
  let v20 : BitVec 32 := Scalar.subi v19 c1_i32_16
  let v21 : BitVec 32 := Scalar.maxsi c0_i32_17 v20
  let v22 : BitVec 32 := Scalar.minsi c13_i32_18 v21
  let c256_i32_368 : BitVec 32 := 256#32
  let v727 : BitVec 32 := Scalar.muli v22 c256_i32_368
  v727
def k0_mult11 (i : grid0.Coords) : BitVec 32 :=
  let c13_i32_18 : BitVec 32 := 13#32
  let c0_i32_17 : BitVec 32 := 0#32
  let c4_i32_14 : BitVec 32 := 4#32
  let arg1 : BitVec 32 := BitVec.ofNat 32 (i 1).val
  let v18 : BitVec 32 := Scalar.muli c4_i32_14 arg1
  let c2_i32_15 : BitVec 32 := 2#32
  let v19 : BitVec 32 := Scalar.addi v18 c2_i32_15
  let c1_i32_16 : BitVec 32 := 1#32
  let v20 : BitVec 32 := Scalar.subi v19 c1_i32_16
  let v21 : BitVec 32 := Scalar.maxsi c0_i32_17 v20
  let v22 : BitVec 32 := Scalar.minsi c13_i32_18 v21
  let c256_i32_415 : BitVec 32 := 256#32
  let v820 : BitVec 32 := Scalar.muli v22 c256_i32_415
  v820
def k0_mult12 (i : grid0.Coords) : BitVec 32 :=
  let c13_i32_18 : BitVec 32 := 13#32
  let c0_i32_17 : BitVec 32 := 0#32
  let c4_i32_14 : BitVec 32 := 4#32
  let arg1 : BitVec 32 := BitVec.ofNat 32 (i 1).val
  let v18 : BitVec 32 := Scalar.muli c4_i32_14 arg1
  let c2_i32_15 : BitVec 32 := 2#32
  let v19 : BitVec 32 := Scalar.addi v18 c2_i32_15
  let c1_i32_16 : BitVec 32 := 1#32
  let v20 : BitVec 32 := Scalar.subi v19 c1_i32_16
  let v21 : BitVec 32 := Scalar.maxsi c0_i32_17 v20
  let v22 : BitVec 32 := Scalar.minsi c13_i32_18 v21
  let c256_i32_462 : BitVec 32 := 256#32
  let v913 : BitVec 32 := Scalar.muli v22 c256_i32_462
  v913
def k0_mult13 (i : grid0.Coords) : BitVec 32 :=
  let c13_i32_27 : BitVec 32 := 13#32
  let c0_i32_26 : BitVec 32 := 0#32
  let c4_i32_24 : BitVec 32 := 4#32
  let arg1 : BitVec 32 := BitVec.ofNat 32 (i 1).val
  let v27 : BitVec 32 := Scalar.muli c4_i32_24 arg1
  let c3_i32 : BitVec 32 := 3#32
  let v28 : BitVec 32 := Scalar.addi v27 c3_i32
  let c1_i32_25 : BitVec 32 := 1#32
  let v29 : BitVec 32 := Scalar.subi v28 c1_i32_25
  let v30 : BitVec 32 := Scalar.maxsi c0_i32_26 v29
  let v31 : BitVec 32 := Scalar.minsi c13_i32_27 v30
  let c256_i32_508 : BitVec 32 := 256#32
  let v1006 : BitVec 32 := Scalar.muli v31 c256_i32_508
  v1006
def k0_mult14 (i : grid0.Coords) : BitVec 32 :=
  let c13_i32_27 : BitVec 32 := 13#32
  let c0_i32_26 : BitVec 32 := 0#32
  let c4_i32_24 : BitVec 32 := 4#32
  let arg1 : BitVec 32 := BitVec.ofNat 32 (i 1).val
  let v27 : BitVec 32 := Scalar.muli c4_i32_24 arg1
  let c3_i32 : BitVec 32 := 3#32
  let v28 : BitVec 32 := Scalar.addi v27 c3_i32
  let c1_i32_25 : BitVec 32 := 1#32
  let v29 : BitVec 32 := Scalar.subi v28 c1_i32_25
  let v30 : BitVec 32 := Scalar.maxsi c0_i32_26 v29
  let v31 : BitVec 32 := Scalar.minsi c13_i32_27 v30
  let c256_i32_555 : BitVec 32 := 256#32
  let v1099 : BitVec 32 := Scalar.muli v31 c256_i32_555
  v1099
def k0_mult15 (i : grid0.Coords) : BitVec 32 :=
  let c13_i32_27 : BitVec 32 := 13#32
  let c0_i32_26 : BitVec 32 := 0#32
  let c4_i32_24 : BitVec 32 := 4#32
  let arg1 : BitVec 32 := BitVec.ofNat 32 (i 1).val
  let v27 : BitVec 32 := Scalar.muli c4_i32_24 arg1
  let c3_i32 : BitVec 32 := 3#32
  let v28 : BitVec 32 := Scalar.addi v27 c3_i32
  let c1_i32_25 : BitVec 32 := 1#32
  let v29 : BitVec 32 := Scalar.subi v28 c1_i32_25
  let v30 : BitVec 32 := Scalar.maxsi c0_i32_26 v29
  let v31 : BitVec 32 := Scalar.minsi c13_i32_27 v30
  let c256_i32_602 : BitVec 32 := 256#32
  let v1192 : BitVec 32 := Scalar.muli v31 c256_i32_602
  v1192
def k0_mult16 (i : grid0.Coords) : BitVec 32 :=
  let c13_i32_27 : BitVec 32 := 13#32
  let c0_i32_26 : BitVec 32 := 0#32
  let c4_i32_24 : BitVec 32 := 4#32
  let arg1 : BitVec 32 := BitVec.ofNat 32 (i 1).val
  let v27 : BitVec 32 := Scalar.muli c4_i32_24 arg1
  let c3_i32 : BitVec 32 := 3#32
  let v28 : BitVec 32 := Scalar.addi v27 c3_i32
  let c1_i32_25 : BitVec 32 := 1#32
  let v29 : BitVec 32 := Scalar.subi v28 c1_i32_25
  let v30 : BitVec 32 := Scalar.maxsi c0_i32_26 v29
  let v31 : BitVec 32 := Scalar.minsi c13_i32_27 v30
  let c256_i32_649 : BitVec 32 := 256#32
  let v1285 : BitVec 32 := Scalar.muli v31 c256_i32_649
  v1285
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x576x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x576x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x8x768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S65536x3840 : Shape := ⟨2, ![65536, 3840]⟩
abbrev S256x3840 : Shape := ⟨2, ![256, 3840]⟩
abbrev S8x15x31 : Shape := ⟨3, ![8, 15, 31]⟩
abbrev S65536x512 : Shape := ⟨2, ![65536, 512]⟩
abbrev S16x64x64x8x64 : Shape := ⟨5, ![16, 64, 64, 8, 64]⟩
abbrev S256x512 : Shape := ⟨2, ![256, 512]⟩
abbrev S16x16x8x64 : Shape := ⟨4, ![16, 16, 8, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x64x64x31 : Shape := ⟨4, ![8, 64, 64, 31]⟩
abbrev S8x64x64x64x64 : Shape := ⟨5, ![8, 64, 64, 64, 64]⟩
abbrev S16x8x64x64x64x64 : Shape := ⟨6, ![16, 8, 64, 64, 64, 64]⟩
abbrev S1x8x64x64x64x64 : Shape := ⟨6, ![1, 8, 64, 64, 64, 64]⟩
abbrev S64x64x1x1 : Shape := ⟨4, ![64, 64, 1, 1]⟩
abbrev S1x1x64x64 : Shape := ⟨4, ![1, 1, 64, 64]⟩
abbrev S64x64x64x64 : Shape := ⟨4, ![64, 64, 64, 64]⟩
abbrev S16x8x64x64x4096 : Shape := ⟨5, ![16, 8, 64, 64, 4096]⟩
abbrev S16x8x64x64x16 : Shape := ⟨5, ![16, 8, 64, 64, 16]⟩
abbrev S16x8x64x64x4112 : Shape := ⟨5, ![16, 8, 64, 64, 4112]⟩
abbrev S16x8x64x64 : Shape := ⟨4, ![16, 8, 64, 64]⟩
abbrev S16x8x64x64x1 : Shape := ⟨5, ![16, 8, 64, 64, 1]⟩
abbrev S16x8x64x64x64 : Shape := ⟨5, ![16, 8, 64, 64, 64]⟩

abbrev nBuf : Space → Nat
  | .hbm => 163
  | .vmem => 0
  | .smem => 0
  | _ => 0

abbrev hbmTy0_0 (i : Nat) : BufTy := match i % 128 with
  | 0 => ⟨S65536x3840, .f32⟩
  | 1 => ⟨S256x3840, .f32⟩
  | 2 => ⟨S8x15x31, .f32⟩
  | 3 => ⟨S65536x512, .f32⟩
  | 4 => ⟨S16x64x64x8x64, .f32⟩
  | 5 => ⟨S65536x512, .f32⟩
  | 6 => ⟨S16x64x64x8x64, .f32⟩
  | 7 => ⟨S65536x512, .f32⟩
  | 8 => ⟨S16x64x64x8x64, .f32⟩
  | 9 => ⟨S256x512, .f32⟩
  | 10 => ⟨S16x16x8x64, .f32⟩
  | 11 => ⟨S256x512, .f32⟩
  | 12 => ⟨S16x16x8x64, .f32⟩
  | 13 => ⟨S64, .i32⟩
  | 14 => ⟨S_, .i32⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S1x64, .i32⟩
  | 37 => ⟨S64x1, .i32⟩
  | 38 => ⟨S64x64, .i32⟩
  | 39 => ⟨S64x64, .i32⟩
  | 40 => ⟨S64x64, .i1⟩
  | 41 => ⟨S1x64, .i32⟩
  | 42 => ⟨S64x1, .i32⟩
  | 43 => ⟨S_, .i32⟩
  | 44 => ⟨S64x1, .i32⟩
  | 45 => ⟨S64x1, .i32⟩
  | 46 => ⟨S64x64, .i32⟩
  | 47 => ⟨S64x64, .i32⟩
  | 48 => ⟨S64x64, .i1⟩
  | 49 => ⟨S64x64, .i1⟩
  | 50 => ⟨S1x64, .i32⟩
  | 51 => ⟨S64x1, .i32⟩
  | 52 => ⟨S64x64, .i32⟩
  | 53 => ⟨S64x64, .i32⟩
  | 54 => ⟨S64x64, .i1⟩
  | 55 => ⟨S1x64, .i32⟩
  | 56 => ⟨S64x1, .i32⟩
  | 57 => ⟨S_, .i32⟩
  | 58 => ⟨S64x1, .i32⟩
  | 59 => ⟨S64x1, .i32⟩
  | 60 => ⟨S64x64, .i32⟩
  | 61 => ⟨S64x64, .i32⟩
  | 62 => ⟨S64x64, .i1⟩
  | 63 => ⟨S64x64, .i1⟩
  | 64 => ⟨S1x64, .i32⟩
  | 65 => ⟨S64x1, .i32⟩
  | 66 => ⟨S64x64, .i32⟩
  | 67 => ⟨S64x64, .i32⟩
  | 68 => ⟨S64x64, .i32⟩
  | 69 => ⟨S_, .i32⟩
  | 70 => ⟨S64x64, .i32⟩
  | 71 => ⟨S64x64, .i32⟩
  | 72 => ⟨S_, .i32⟩
  | 73 => ⟨S_, .i32⟩
  | 74 => ⟨S_, .i32⟩
  | 75 => ⟨S64x64, .i32⟩
  | 76 => ⟨S64x64, .i32⟩
  | 77 => ⟨S_, .i32⟩
  | 78 => ⟨S64x64, .i32⟩
  | 79 => ⟨S64x64, .i32⟩
  | 80 => ⟨S1x64, .i32⟩
  | 81 => ⟨S64x1, .i32⟩
  | 82 => ⟨S64x64, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S_, .i32⟩
  | 90 => ⟨S_, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i1⟩
  | 99 => ⟨S_, .i32⟩
  | 100 => ⟨S64x64, .i32⟩
  | 101 => ⟨S64x64, .i32⟩
  | 102 => ⟨S64x64, .i32⟩
  | 103 => ⟨S64x64x1, .i32⟩
  | 104 => ⟨S8x64x64x31, .f32⟩
  | 105 => ⟨S_, .i32⟩
  | 106 => ⟨S64x64, .i32⟩
  | 107 => ⟨S64x64, .i1⟩
  | 108 => ⟨S_, .i32⟩
  | 109 => ⟨S64x64, .i32⟩
  | 110 => ⟨S64x64, .i32⟩
  | 111 => ⟨S64x64, .i32⟩
  | 112 => ⟨S64x64x1, .i32⟩
  | 113 => ⟨S8x64x64x64x64, .f32⟩
  | 114 => ⟨S16x8x64x64x64x64, .f32⟩
  | 115 => ⟨S16x8x64x64x64x64, .f32⟩
  | 116 => ⟨S_, .f32⟩
  | 117 => ⟨S16x8x64x64x64x64, .f32⟩
  | 118 => ⟨S16x8x64x64x64x64, .f32⟩
  | 119 => ⟨S1x8x64x64x64x64, .f32⟩
  | 120 => ⟨S16x8x64x64x64x64, .f32⟩
  | 121 => ⟨S16x8x64x64x64x64, .f32⟩
  | 122 => ⟨S64x64x1x1, .i1⟩
  | 123 => ⟨S1x1x64x64, .i1⟩
  | 124 => ⟨S64x64x64x64, .i1⟩
  | 125 => ⟨S64x64x64x64, .i1⟩
  | 126 => ⟨S64x64x64x64, .i1⟩
  | 127 => ⟨S_, .f32⟩
  | _ => ⟨S65536x3840, .f32⟩

abbrev hbmTy0_1 (i : Nat) : BufTy := match i % 128 with
  | 0 => ⟨S_, .f32⟩
  | 1 => ⟨S16x8x64x64x64x64, .i1⟩
  | 2 => ⟨S16x8x64x64x64x64, .f32⟩
  | 3 => ⟨S16x8x64x64x64x64, .f32⟩
  | 4 => ⟨S16x8x64x64x64x64, .f32⟩
  | 5 => ⟨S16x8x64x64x4096, .f32⟩
  | 6 => ⟨S16x8x64x64x16, .f32⟩
  | 7 => ⟨S_, .f32⟩
  | 8 => ⟨S16x8x64x64x16, .f32⟩
  | 9 => ⟨S16x8x64x64x16, .f32⟩
  | 10 => ⟨S16x8x64x64x4112, .f32⟩
  | 11 => ⟨S_, .f32⟩
  | 12 => ⟨S16x8x64x64, .f32⟩
  | 13 => ⟨S_, .f32⟩
  | 14 => ⟨S16x8x64x64, .f32⟩
  | 15 => ⟨S16x8x64x64, .f32⟩
  | 16 => ⟨S16x8x64x64x1, .f32⟩
  | 17 => ⟨S16x8x64x64x4112, .f32⟩
  | 18 => ⟨S16x8x64x64x4112, .f32⟩
  | 19 => ⟨S16x8x64x64x4112, .f32⟩
  | 20 => ⟨S_, .f32⟩
  | 21 => ⟨S16x8x64x64, .f32⟩
  | 22 => ⟨S16x8x64x64x1, .f32⟩
  | 23 => ⟨S16x8x64x64x4112, .f32⟩
  | 24 => ⟨S16x8x64x64x4112, .f32⟩
  | 25 => ⟨S16x8x64x64x4096, .f32⟩
  | 26 => ⟨S16x8x64x64x64x64, .f32⟩
  | 27 => ⟨S16x8x64x64x16, .f32⟩
  | 28 => ⟨S16x8x64x64x64, .f32⟩
  | 29 => ⟨S16x64x64x8x64, .f32⟩
  | 30 => ⟨S16x8x64x64x64, .f32⟩
  | 31 => ⟨S16x64x64x8x64, .f32⟩
  | 32 => ⟨S16x64x64x8x64, .f32⟩
  | 33 => ⟨S65536x512, .f32⟩
  | 34 => ⟨S65536x512, .bf16⟩
  | _ => ⟨S65536x3840, .f32⟩

abbrev hbmTy (i : Nat) : BufTy := match i / 128 with
  | 0 => hbmTy0_0 i
  | 1 => hbmTy0_1 i
  | _ => ⟨S65536x3840, .f32⟩

abbrev bufTy : (tb : Table) → Fin (tcTables nBuf tb) → BufTy
  | .hbm, ⟨i, _⟩ => hbmTy i
  | _, _ => ⟨S65536x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_c_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_c_12 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v58 : Ref sig .tc := ⟨.hbm, 95, rfl⟩
abbrev main_c_13 : Ref sig .tc := ⟨.hbm, 96, rfl⟩
abbrev main_v59 : Ref sig .tc := ⟨.hbm, 97, rfl⟩
abbrev main_v60 : Ref sig .tc := ⟨.hbm, 98, rfl⟩
abbrev main_c_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_15 : Ref sig .tc := ⟨.hbm, 105, rfl⟩
abbrev main_v66 : Ref sig .tc := ⟨.hbm, 106, rfl⟩
abbrev main_v67 : Ref sig .tc := ⟨.hbm, 107, rfl⟩
abbrev main_c_16 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_17 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_18 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_19 : Ref sig .tc := ⟨.hbm, 139, rfl⟩
abbrev main_v92 : Ref sig .tc := ⟨.hbm, 140, rfl⟩
abbrev main_cst_20 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_21 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x5632, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 10
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S65536x512 : Shape := ⟨2, ![65536, 512]⟩
abbrev S3x1024x1024 : Shape := ⟨3, ![3, 1024, 1024]⟩
abbrev S3x512x1024 : Shape := ⟨3, ![3, 512, 1024]⟩
abbrev S1024x1024 : Shape := ⟨2, ![1024, 1024]⟩
abbrev S1x1024 : Shape := ⟨2, ![1, 1024]⟩
abbrev S1024x512 : Shape := ⟨2, ![1024, 512]⟩
abbrev S1024x1 : Shape := ⟨2, ![1024, 1]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 16
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S3x1024x1024, .f32⟩
  | .hbm, ⟨6, _⟩ => ⟨S3x512x1024, .f32⟩
  | .hbm, ⟨7, _⟩ => ⟨S1024x1024, .f32⟩
  | .hbm, ⟨8, _⟩ => ⟨S65536x512, .bf16⟩
  | .hbm, ⟨9, _⟩ => ⟨S65536x512, .bf16⟩
  | .hbm, ⟨10, _⟩ => ⟨S65536x512, .bf16⟩
  | .hbm, ⟨11, _⟩ => ⟨S3x1024x1024, .bf16⟩
  | .hbm, ⟨12, _⟩ => ⟨S3x512x1024, .bf16⟩
  | .hbm, ⟨13, _⟩ => ⟨S1024x1024, .bf16⟩
  | .hbm, ⟨14, _⟩ => ⟨S1x1024, .f32⟩
  | .hbm, ⟨15, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S3x1024x1024, .bf16⟩
  | .local _ .vmem, ⟨10, _⟩ => ⟨S3x512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S65536x1024 : Shape := ⟨2, ![65536, 1024]⟩
abbrev S1024 : Shape := ⟨1, ![1024]⟩
abbrev S65536x512 : Shape := ⟨2, ![65536, 512]⟩
abbrev S3x1024x1024 : Shape := ⟨3, ![3, 1024, 1024]⟩
abbrev S3x512x1024 : Shape := ⟨3, ![3, 512, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S3x1024x1024, .f32⟩
  | .hbm, ⟨6, _⟩ => ⟨S3x512x1024, .f32⟩
  | .hbm, ⟨7, _⟩ => ⟨S1024x1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S1x1024x1024, .f32⟩
  | .hbm, ⟨25, _⟩ => ⟨S1024x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S1x512x1024, .f32⟩
  | .hbm, ⟨36, _⟩ => ⟨S512x1024, .f32⟩
  | .hbm, ⟨37, _⟩ => ⟨S65536x1024, .f32⟩
  | .hbm, ⟨38, _⟩ => ⟨S65536x1024, .f32⟩
  | .hbm, ⟨39, _⟩ => ⟨S1x1024x1024, .f32⟩
  | .hbm, ⟨40, _⟩ => ⟨S1024x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536x1024, .f32⟩
  | .hbm, ⟨49, _⟩ => ⟨S65536x1024, .f32⟩
  | .hbm, ⟨50, _⟩ => ⟨S1x512x1024, .f32⟩
  | .hbm, ⟨51, _⟩ => ⟨S512x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S1x1024x1024, .f32⟩
  | .hbm, ⟨56, _⟩ => ⟨S1024x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S1x512x1024, .f32⟩
  | .hbm, ⟨67, _⟩ => ⟨S512x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S65536x1024, .f32⟩
  | .hbm, ⟨72, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x3840 : Shape := ⟨2, ![1024, 3840]⟩
abbrev S1024x512 : Shape := ⟨2, ![1024, 512]⟩
abbrev S1024x128 : Shape := ⟨2, ![1024, 128]⟩
abbrev S1024x1152 : Shape := ⟨2, ![1024, 1152]⟩
abbrev S1152x1024 : Shape := ⟨2, ![1152, 1024]⟩
abbrev S1x1024 : Shape := ⟨2, ![1, 1024]⟩
abbrev S65536x3840 : Shape := ⟨2, ![65536, 3840]⟩
abbrev S256x576x256 : Shape := ⟨3, ![256, 576, 256]⟩
abbrev S512x144x128 : Shape := ⟨3, ![512, 144, 128]⟩
abbrev S1024x1024 : Shape := ⟨2, ![1024, 1024]⟩
abbrev S4x576x256 : Shape := ⟨3, ![4, 576, 256]⟩
abbrev S8x144x128 : Shape := ⟨3, ![8, 144, 128]⟩
abbrev S1024x1 : Shape := ⟨2, ![1024, 1]⟩
abbrev S1024x768 : Shape := ⟨2, ![1024, 768]⟩
abbrev S128x256 : Shape := ⟨2, ![128, 256]⟩
abbrev S1x128x256 : Shape := ⟨3, ![1, 128, 256]⟩
abbrev S16x256 : Shape := ⟨2, ![16, 256]⟩
abbrev S1x16x256 : Shape := ⟨3, ![1, 16, 256]⟩
abbrev S128x128 : Shape := ⟨2, ![128, 128]⟩
abbrev S1x128x128 : Shape := ⟨3, ![1, 128, 128]⟩
abbrev S16x128 : Shape := ⟨2, ![16, 128]⟩
abbrev S1x16x128 : Shape := ⟨3, ![1, 16, 128]⟩

abbrev nBuf : Space → Nat
  | .hbm => 14
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3840, .f32⟩
  | .hbm, ⟨3, _⟩ => ⟨S1024x3840, .bf16⟩
  | .hbm, ⟨4, _⟩ => ⟨S1024x512, .bf16⟩
  | .hbm, ⟨5, _⟩ => ⟨S1024x512, .bf16⟩
  | .hbm, ⟨6, _⟩ => ⟨S1024x128, .bf16⟩
  | .hbm, ⟨7, _⟩ => ⟨S1024x1152, .bf16⟩
  | .hbm, ⟨8, _⟩ => ⟨S1152x1024, .bf16⟩
  | .hbm, ⟨9, _⟩ => ⟨S1x1024, .f32⟩
  | .hbm, ⟨10, _⟩ => ⟨S65536x3840, .bf16⟩
  | .hbm, ⟨11, _⟩ => ⟨S256x576x256, .bf16⟩
  | .hbm, ⟨12, _⟩ => ⟨S256x576x256, .bf16⟩
  | .hbm, ⟨13, _⟩ => ⟨S512x144x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3840, .bf16⟩
  | .local _ .vmem, ⟨4, _⟩ => ⟨S1152x1024, .bf16⟩
  | .local _ .vmem, ⟨5, _⟩ => ⟨S1024x3840, .bf16⟩
  | .local _ .vmem, ⟨6, _⟩ => ⟨S1024x3840, .bf16⟩
  | .local _ .vmem, ⟨7, _⟩ => ⟨S4x576x256, .bf16⟩
  | .local _ .vmem, ⟨8, _⟩ => ⟨S4x576x256, .bf16⟩
  | .local _ .vmem, ⟨9, _⟩ => ⟨S4x576x256, .bf16⟩
  | .local _ .vmem, ⟨10, _⟩ => ⟨S4x576x256, .bf16⟩
  | .local _ .vmem, ⟨11, _⟩ => ⟨S8x144x128, .bf16⟩
  | .local _ .vmem, ⟨12, _⟩ => ⟨S8x144x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x576x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x576x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x144x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S65536x1024 : Shape := ⟨2, ![65536, 1024]⟩
abbrev S1024 : Shape := ⟨1, ![1024]⟩
abbrev S1024x3840 : Shape := ⟨2, ![1024, 3840]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3840 : Shape := ⟨2, ![65536, 3840]⟩
abbrev S65536x512 : Shape := ⟨2, ![65536, 512]⟩
abbrev S256x256x4x128 : Shape := ⟨4, ![256, 256, 4, 128]⟩
abbrev S256x4x128x256 : Shape := ⟨4, ![256, 4, 128, 256]⟩
abbrev S256x4x144x256 : Shape := ⟨4, ![256, 4, 144, 256]⟩
abbrev S256x576x256 : Shape := ⟨3, ![256, 576, 256]⟩
abbrev S65536x128 : Shape := ⟨2, ![65536, 128]⟩
abbrev S512x128x1x128 : Shape := ⟨4, ![512, 128, 1, 128]⟩
abbrev S512x1x128x128 : Shape := ⟨4, ![512, 1, 128, 128]⟩
abbrev S512x1x144x128 : Shape := ⟨4, ![512, 1, 144, 128]⟩
abbrev S512x144x128 : Shape := ⟨3, ![512, 144, 128]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3840, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3840, .f32⟩
  | .hbm, ⟨20, _⟩ => ⟨S65536x3840, .bf16⟩
  | .hbm, ⟨21, _⟩ => ⟨S65536x512, .f32⟩
  | .hbm, ⟨22, _⟩ => ⟨S256x256x4x128, .f32⟩
  | .hbm, ⟨23, _⟩ => ⟨S256x4x128x256, .f32⟩
  | .hbm, ⟨24, _⟩ => ⟨S_, .f32⟩
  | .hbm, ⟨25, _⟩ => ⟨S_, .f32⟩
  | .hbm, ⟨26, _⟩ => ⟨S256x4x144x256, .f32⟩
  | .hbm, ⟨27, _⟩ => ⟨S256x576x256, .f32⟩
  | .hbm, ⟨28, _⟩ => ⟨S256x576x256, .bf16⟩
  | .hbm, ⟨29, _⟩ => ⟨S65536x512, .f32⟩
  | .hbm, ⟨30, _⟩ => ⟨S256x256x4x128, .f32⟩
  | .hbm, ⟨31, _⟩ => ⟨S256x4x128x256, .f32⟩
  | .hbm, ⟨32, _⟩ => ⟨S_, .f32⟩
  | .hbm, ⟨33, _⟩ => ⟨S_, .f32⟩
  | .hbm, ⟨34, _⟩ => ⟨S256x4x144x256, .f32⟩
  | .hbm, ⟨35, _⟩ => ⟨S256x576x256, .f32⟩
  | .hbm, ⟨36, _⟩ => ⟨S256x576x256, .bf16⟩
  | .hbm, ⟨37, _⟩ => ⟨S65536x128, .f32⟩
  | .hbm, ⟨38, _⟩ => ⟨S512x128x1x128, .f32⟩
  | .hbm, ⟨39, _⟩ => ⟨S512x1x128x128, .f32⟩
  | .hbm, ⟨40, _⟩ => ⟨S_, .f32⟩
  | .hbm, ⟨41, _⟩ => ⟨S_, .f32⟩
  | .hbm, ⟨42, _⟩ => ⟨S512x1x144x128, .f32⟩
  | .hbm, ⟨43, _⟩ => ⟨S512x144x128, .f32⟩
  | .hbm, ⟨44, _⟩ => ⟨S512x144x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_call2_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Math.lean ====
/- The arithmetic of a masked softmax over the extended reals: weights `2 ^ (s - M)` or `exp (s - M)` of scores that
   are real or masked (`⊥`), a shift `M` that is real whatever it is, and the quotient of the weighted sum by the sum
   of the weights, which does not depend on `M`. -/
module

public import Idealize.ShloMosaic.Lib.Pointwise

@[expose] public section

noncomputable section

namespace Cert.Nat2d

open Idealize.ShloMosaic

/-- A score: the real `s` where the key is attended, `⊥` where it is masked. -/
def score (ok : Prop) [Decidable ok] (s : ℝ) : EReal := if ok then (s : EReal) else ⊥

theorem score_ne_top (ok : Prop) [Decidable ok] (s : ℝ) : score ok s ≠ ⊤ := by
  unfold score; split
  · exact EReal.coe_ne_top _
  · exact bot_ne_top

/-- The weight of a key before normalisation. -/
def wt (ok : Prop) [Decidable ok] (s : ℝ) : ℝ := if ok then Real.exp s else 0

theorem wt_nonneg (ok : Prop) [Decidable ok] (s : ℝ) : 0 ≤ wt ok s := by
  unfold wt; split
  · exact (Real.exp_pos s).le
  · exact le_rfl

theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The maximum of finitely many numbers below `⊤` is below `⊤`. -/
theorem fold_max_ne_top {ι : Type*} (t : Finset ι) (f : ι → EReal) (h : ∀ i, f i ≠ ⊤) :
    t.fold max ⊥ f ≠ ⊤ := by
  classical
  induction t using Finset.induction_on with
  | empty => simp
  | insert a s ha ih =>
    rw [Finset.fold_insert ha]
    exact ne_of_lt (max_lt (lt_top_iff_ne_top.2 (h a)) (lt_top_iff_ne_top.2 ih))

/-- The maximum is at least each of the numbers. -/
theorem le_fold_max {ι : Type*} (t : Finset ι) (f : ι → EReal) (i : ι) (hi : i ∈ t) : f i ≤ t.fold max ⊥ f := by
  classical
  rw [Finset.le_fold_max]
  exact .inr ⟨i, hi, le_rfl⟩

theorem real_of_ne {x : EReal} (h : x ≠ ⊤) (h' : x ≠ ⊥) : ∃ r : ℝ, x = (r : EReal) :=
  ⟨x.toReal, (EReal.coe_toReal h h').symm⟩

theorem exp_score (ok : Prop) [Decidable ok] (s M : ℝ) :
    Ideal.exp (score ok s - (M : EReal)) = ((wt ok s * Real.exp (-M) : ℝ) : EReal) := by
  unfold score wt; split
  · rw [← EReal.coe_sub, Ideal.exp_coe, ← Real.exp_add, sub_eq_add_neg]
  · rw [EReal.bot_sub, Ideal.exp_bot]; simp

theorem exp2_score (ok : Prop) [Decidable ok] (s M : ℝ) :
    Ideal.exp2 (score ok ((Real.log 2)⁻¹ * s) - (M : EReal)) = ((wt ok s * Real.exp (-(M * Real.log 2)) : ℝ) : EReal) := by
  have h2 : Real.log 2 ≠ 0 := (Real.log_pos (by norm_num)).ne'
  unfold score wt; split
  · rw [← EReal.coe_sub, Ideal.exp2_coe, ← Real.exp_add]
    congr 1
    show (2 : ℝ) ^ ((Real.log 2)⁻¹ * s - M) = _
    rw [Real.rpow_def_of_pos (by norm_num)]
    congr 1
    field_simp
    ring
  · rw [EReal.bot_sub, Ideal.exp2_bot]; simp

theorem exp_real (s M : ℝ) : Ideal.exp ((s : EReal) - (M : EReal)) = ((Real.exp s * Real.exp (-M) : ℝ) : EReal) := by
  simpa [score, wt] using exp_score True s M

theorem exp2_real (s M : ℝ) : Ideal.exp2 (((((Real.log 2)⁻¹ * s : ℝ)) : EReal) - (M : EReal))
    = ((Real.exp s * Real.exp (-(M * Real.log 2)) : ℝ) : EReal) := by
  simpa only [score, wt, if_true] using exp2_score True s M

/-- The attention of one query and one channel: keys `ι` that are always attended (scores `sm`, values `vm`), keys `κ`
    attended where `ok` holds (scores `s`, values `v`). -/
def attn {ι κ : Type*} [Fintype ι] [Fintype κ] (sm vm : ι → ℝ) (ok : κ → Prop) [DecidablePred ok] (s v : κ → ℝ) : ℝ :=
  ((∑ i, Real.exp (sm i) * vm i) + ∑ k, wt (ok k) (s k) * v k) / ((∑ i, Real.exp (sm i)) + ∑ k, wt (ok k) (s k))

theorem attn_den_pos {ι κ : Type*} [Fintype ι] [Nonempty ι] [Fintype κ] (sm : ι → ℝ) (ok : κ → Prop) [DecidablePred ok] (s : κ → ℝ) :
    0 < (∑ i, Real.exp (sm i)) + ∑ k, wt (ok k) (s k) :=
  add_pos_of_pos_of_nonneg (Finset.sum_pos (fun i _ => Real.exp_pos _) Finset.univ_nonempty) (Finset.sum_nonneg fun k _ => wt_nonneg _ _)

/-- A quotient of reals with a nonzero divisor. -/
theorem div_coe_coe (x y : ℝ) (h : y ≠ 0) : Ideal.div (x : EReal) (y : EReal) = ((x / y : ℝ) : EReal) := by
  rw [Ideal.div_coe h, ← EReal.coe_mul, mul_one_div]

end Cert.Nat2d

end
-- ==== Proof.Tile.lean ====
/- One tile of the attention: 256 queries and a pair of heads, against the 768 keys of the window and the 16 meta keys.
   The kernel's body runs it sixteen times a grid point. Here it is written once, over the vectors the body loads, and
   read at an index: query `r` and channel `64 * hb + e` of the pair see the half `hb` of the lanes only. -/
module

public import proofs.«01_k».proof.Proof.Gen.KernelIdeal.Skeleton
public import proofs.«01_k».proof.Proof.Math
public import Idealize.ShloMosaic.Lib.Pipeline.ValueKit
public import Idealize.ShloMosaic.Lib.Pointwise

@[expose] public section

set_option maxRecDepth 16384

noncomputable section

namespace Cert.KernelIdeal.Tile

open Cert.Nat2d

open Cert.KernelIdeal Cert.KernelIdeal.Gen Idealize.ShloMosaic Idealize.ShloMosaic.TcCoe Idealize.SL.Sem

section
variable {F : FTy → Type} [FloatOps F] [Named F]

/-- The scores of the tile, as the body stores and loads them: 256 rows from row `o` on. -/
def rows (s : FVec F S768x512 .f32) (o : Fin 2 → ℕ) (h : ∀ a, o a + S256x512.size a ≤ S768x512.size a) : FVec F S256x512 .f32 :=
  View.ld (Val := Elt F) (S := S768x512) (e' := .f32) s (Rect.unit (s := S768x512) o ![256, 512] h)

/-- The tile's result. -/
def tile (q : Vec F S256x128 .bf16) (kw : Vec F S768x128 .bf16) (b0 b1 : Vec F S1x1x768x256 .f32)
    (km : Vec F S16x128 .bf16) (vm : Vec F S1x144x16 .bf16) (v0 v1 v2 : Vec F S1x144x256 .bf16) : FVec F S256x128 .bf16 :=
  k0_pay33 (k0_pay9 (k0_pay2 q) (k0_pay3 q kw) (k0_pay4 b0 b1) k0_pay5 km)
    (k0_pay32 (k0_pay8 (k0_pay2 q) km) (k0_pay9 (k0_pay2 q) (k0_pay3 q kw) (k0_pay4 b0 b1) k0_pay5 km) vm
      (rows (k0_pay7 (k0_pay3 q kw) (k0_pay4 b0 b1) k0_pay5) ![0, 0] inb_S768x512_S256x512_0_0) v0)
    (rows (k0_pay7 (k0_pay3 q kw) (k0_pay4 b0 b1) k0_pay5) ![256, 0] inb_S768x512_S256x512_256_0) v1
    (rows (k0_pay7 (k0_pay3 q kw) (k0_pay4 b0 b1) k0_pay5) ![512, 0] inb_S768x512_S256x512_512_0) v2
end

variable (q : Vec Ideal S256x128 .bf16) (kw : Vec Ideal S768x128 .bf16) (b0 b1 : Vec Ideal S1x1x768x256 .f32)
  (km : Vec Ideal S16x128 .bf16) (vm : Vec Ideal S1x144x16 .bf16) (v0 v1 v2 : Vec Ideal S1x144x256 .bf16)

theorem lane_lt : ∀ x : Fin 128, IntOp.cmpi .slt (BitVec.ofNat 32 (x : ℕ)) 64#32 = if (x : ℕ) < 64 then 1#1 else 0#1 := by decide

theorem lane_select (x : Fin 128) (a b : EReal) :
    Scalar.select (IntOp.cmpi .slt (BitVec.ofNat 32 (x : ℕ)) 64#32) a b = if (x : ℕ) < 64 then a else b := by
  rw [lane_lt, Scalar.select]; split <;> simp

theorem sum_lo (f : Fin 128 → EReal) :
    (∑ x : Fin 128, if (x : ℕ) < 64 then f x else 0) = ∑ d : Fin 64, f ⟨d, by omega⟩ := by
  rw [Fin.sum_univ_two_halves 64 64 rfl]; simp

theorem sum_hi (f : Fin 128 → EReal) :
    (∑ x : Fin 128, if (x : ℕ) < 64 then 0 else f x) = ∑ d : Fin 64, f ⟨64 + d, by omega⟩ := by
  rw [Fin.sum_univ_two_halves 64 64 rfl]; simp

/-- The two named constants, as they are printed. -/
abbrev cq : EReal := Named.named (F := Ideal) κ (φ := .f32) "qscale" 0x3E38AA3B#32
abbrev cl : EReal := Named.named (F := Ideal) κ (φ := .f32) "log2e" 0x3FB8AA3B#32

theorem cq_eq : cq = ((1 / 8 * (Real.log 2)⁻¹ : ℝ) : EReal) := rfl
theorem cl_eq : cl = (((Real.log 2)⁻¹ : ℝ) : EReal) := rfl

/-- The scores of the window's keys. -/
abbrev scores : FVec Ideal S768x512 .f32 := k0_pay6 (k0_pay3 q kw) (k0_pay4 b0 b1) k0_pay5

theorem scores_lo (n : Fin 768) (r : Fin 256) :
    scores q kw b0 b1 (ix2 n ⟨r, by omega⟩)
      = (∑ d : Fin 64, kw (ix2 n ⟨d, by omega⟩) * (q (ix2 r ⟨d, by omega⟩) * cq)) + b0 (ix4 0 0 n r) * cl := by
  pointwise [scores, k0_pay6, k0_pay4, k0_pay5, k0_pay3, k0_pay2]
  simp only [lane_select]
  rw [sum_lo]

theorem scores_hi (n : Fin 768) (r : Fin 256) :
    scores q kw b0 b1 (ix2 n ⟨256 + r, by omega⟩)
      = (∑ d : Fin 64, kw (ix2 n ⟨64 + d, by omega⟩) * (q (ix2 r ⟨64 + d, by omega⟩) * cq)) + b1 (ix4 0 0 n r) * cl := by
  pointwise [scores, k0_pay6, k0_pay4, k0_pay5, k0_pay3, k0_pay2]
  simp only [lane_select]
  rw [sum_hi]

theorem meta_lo (n : Fin 16) (r : Fin 256) :
    k0_pay8 (F := Ideal) (k0_pay2 q) km (ix2 n ⟨r, by omega⟩)
      = ∑ d : Fin 64, km (ix2 n ⟨d, by omega⟩) * (q (ix2 r ⟨d, by omega⟩) * cq) := by
  pointwise [k0_pay8, k0_pay2]
  simp only [lane_select]
  rw [sum_lo]

theorem meta_hi (n : Fin 16) (r : Fin 256) :
    k0_pay8 (F := Ideal) (k0_pay2 q) km (ix2 n ⟨256 + r, by omega⟩)
      = ∑ d : Fin 64, km (ix2 n ⟨64 + d, by omega⟩) * (q (ix2 r ⟨64 + d, by omega⟩) * cq) := by
  pointwise [k0_pay8, k0_pay2]
  simp only [lane_select]
  rw [sum_hi]

theorem stored_eq : k0_pay7 (F := Ideal) (k0_pay3 q kw) (k0_pay4 b0 b1) k0_pay5 = scores q kw b0 b1 := by
  funext j; idx_vars j; pointwise [k0_pay7, scores]

theorem neg_inf : Ideal.ofBits .f32 0xFF800000#32 = ⊥ := by
  simp [Ideal.ofBits, Ideal.ieee]

theorem max_at (A : FVec Ideal S512x128 .bf16) (s b l : FVec Ideal S768x512 .f32) (j : Fin 512) :
    k0_pay9 (F := Ideal) A s b l km (ix2 0 j)
      = max ((Finset.univ : Finset (Fin 768)).fold max ⊥ fun n => k0_pay6 s b l (ix2 n j)) ((Finset.univ : Finset (Fin 16)).fold max ⊥ fun n => k0_pay8 A km (ix2 n j)) := by
  pointwise [k0_pay9]
  rw [neg_inf]

/-- The weighted sum of a row of the transposed values (or of the ones) at column `j`, for scores `S`, `SM` and the shift `M`. -/
def acc (S : Fin 768 → EReal) (SM : Fin 16 → EReal) (M : EReal) (vmr : Fin 16 → EReal) (w0 w1 w2 : Fin 256 → EReal) : EReal :=
  (∑ i : Fin 16, vmr i * Ideal.exp2 (SM i - M)) + (∑ i : Fin 256, w0 i * Ideal.exp2 (S ⟨i, by omega⟩ - M))
    + (∑ i : Fin 256, w1 i * Ideal.exp2 (S ⟨256 + i, by omega⟩ - M)) + (∑ i : Fin 256, w2 i * Ideal.exp2 (S ⟨512 + i, by omega⟩ - M))

theorem out_at (SM : FVec Ideal S16x512 .f32) (M : FVec Ideal S1x512 .f32) (S : FVec Ideal S768x512 .f32) (r : Fin 256) (c : Fin 128) :
    k0_pay33 (F := Ideal) M (k0_pay32 SM M vm (rows S ![0, 0] inb_S768x512_S256x512_0_0) v0) (rows S ![256, 0] inb_S768x512_S256x512_256_0) v1
        (rows S ![512, 0] inb_S768x512_S256x512_512_0) v2 (ix2 r c)
      = (fun j : Fin 512 => Ideal.div (acc (fun n => S (ix2 n j)) (fun n => SM (ix2 n j)) (M (ix2 0 j)) (fun i => vm (ix3 0 ⟨c, by omega⟩ i)) (fun i => v0 (ix3 0 ⟨c, by omega⟩ i))
          (fun i => v1 (ix3 0 ⟨c, by omega⟩ i)) (fun i => v2 (ix3 0 ⟨c, by omega⟩ i)))
          (acc (fun n => S (ix2 n j)) (fun n => SM (ix2 n j)) (M (ix2 0 j)) (fun i => vm (ix3 0 128 i)) (fun i => v0 (ix3 0 128 i))
          (fun i => v1 (ix3 0 128 i)) (fun i => v2 (ix3 0 128 i)))) (if (c : ℕ) < 64 then ⟨r, by omega⟩ else ⟨256 + r, by omega⟩) := by
  pointwise [k0_pay33, k0_pay32, rows, acc]
  rw [lane_select]
  split <;> rfl

/-- The weighted sum of real values, for scores that are real multiples of `1 / log 2` or masked. -/
theorem acc_real (sm : Fin 16 → ℝ) (ok : Fin 768 → Prop) [DecidablePred ok] (s : Fin 768 → ℝ) (M : ℝ) (vm : Fin 16 → ℝ) (v : Fin 768 → ℝ)
    (S : Fin 768 → EReal) (SM : Fin 16 → EReal) (vmr : Fin 16 → EReal) (w0 w1 w2 : Fin 256 → EReal)
    (hS : ∀ n, S n = score (ok n) ((Real.log 2)⁻¹ * s n)) (hSM : ∀ i, SM i = (((Real.log 2)⁻¹ * sm i : ℝ) : EReal))
    (hvm : ∀ i, vmr i = (vm i : EReal)) (h0 : ∀ i : Fin 256, w0 i = (v ⟨i, by omega⟩ : EReal))
    (h1 : ∀ i : Fin 256, w1 i = (v ⟨256 + i, by omega⟩ : EReal)) (h2 : ∀ i : Fin 256, w2 i = (v ⟨512 + i, by omega⟩ : EReal)) :
    acc S SM (M : EReal) vmr w0 w1 w2
      = ((((∑ i, Real.exp (sm i) * vm i) + ∑ n, wt (ok n) (s n) * v n) * Real.exp (-(M * Real.log 2)) : ℝ) : EReal) := by
  have hsum : (∑ n, wt (ok n) (s n) * v n) = (∑ i : Fin 256, wt (ok ⟨i, by omega⟩) (s ⟨i, by omega⟩) * v ⟨i, by omega⟩)
      + ((∑ i : Fin 256, wt (ok ⟨256 + i, by omega⟩) (s ⟨256 + i, by omega⟩) * v ⟨256 + i, by omega⟩)
      + (∑ i : Fin 256, wt (ok ⟨512 + i, by omega⟩) (s ⟨512 + i, by omega⟩) * v ⟨512 + i, by omega⟩)) := by
    rw [Fin.sum_univ_two_halves 256 512 rfl, Fin.sum_univ_two_halves (N := 512) 256 256 rfl]
    simp only [← Nat.add_assoc]
  unfold acc
  simp only [hS, hSM, exp2_score, exp2_real, hvm, h0, h1, h2, ← EReal.coe_mul, ← coe_sum, ← EReal.coe_add, hsum]
  congr 1
  simp only [add_mul, Finset.sum_mul, add_assoc]
  refine congrArg₂ (· + ·) (Finset.sum_congr rfl fun i _ => by ring) (congrArg₂ (· + ·) (Finset.sum_congr rfl fun i _ => by ring)
    (congrArg₂ (· + ·) (Finset.sum_congr rfl fun i _ => by ring) (Finset.sum_congr rfl fun i _ => by ring)))

/-- The quotient of two such sums over one column: the shift cancels. -/
theorem acc_div (sm : Fin 16 → ℝ) (ok : Fin 768 → Prop) [DecidablePred ok] (s : Fin 768 → ℝ) (vm : Fin 16 → ℝ) (v : Fin 768 → ℝ)
    (S : Fin 768 → EReal) (SM : Fin 16 → EReal) (vmr : Fin 16 → EReal) (w0 w1 w2 : Fin 256 → EReal)
    (omr : Fin 16 → EReal) (o0 o1 o2 : Fin 256 → EReal)
    (hS : ∀ n, S n = score (ok n) ((Real.log 2)⁻¹ * s n)) (hSM : ∀ i, SM i = (((Real.log 2)⁻¹ * sm i : ℝ) : EReal))
    (hvm : ∀ i, vmr i = (vm i : EReal)) (h0 : ∀ i : Fin 256, w0 i = (v ⟨i, by omega⟩ : EReal))
    (h1 : ∀ i : Fin 256, w1 i = (v ⟨256 + i, by omega⟩ : EReal)) (h2 : ∀ i : Fin 256, w2 i = (v ⟨512 + i, by omega⟩ : EReal))
    (gm : ∀ i, omr i = 1) (g0 : ∀ i, o0 i = 1) (g1 : ∀ i, o1 i = 1) (g2 : ∀ i, o2 i = 1) (M : EReal)
    (hM : M = max ((Finset.univ : Finset (Fin 768)).fold max ⊥ S) ((Finset.univ : Finset (Fin 16)).fold max ⊥ SM)) :
    Ideal.div (acc S SM M vmr w0 w1 w2) (acc S SM M omr o0 o1 o2) = (attn sm vm ok s v : EReal) := by
  obtain ⟨M, rfl⟩ : ∃ r : ℝ, M = (r : EReal) := by
    refine real_of_ne ?_ ?_
    · rw [hM]
      exact ne_of_lt (max_lt (lt_top_iff_ne_top.2 (fold_max_ne_top _ _ fun n => by rw [hS]; exact score_ne_top _ _))
        (lt_top_iff_ne_top.2 (fold_max_ne_top _ _ fun n => by rw [hSM]; exact EReal.coe_ne_top _)))
    · rw [hM]
      refine ne_of_gt (lt_of_lt_of_le (EReal.bot_lt_coe ((Real.log 2)⁻¹ * sm 0)) (le_max_of_le_right ?_))
      rw [← hSM 0]
      exact le_fold_max _ _ _ (Finset.mem_univ _)
  rw [acc_real sm ok s M vm v S SM vmr w0 w1 w2 hS hSM hvm h0 h1 h2,
    acc_real sm ok s M (fun _ => 1) (fun _ => 1) S SM omr o0 o1 o2 hS hSM (by simpa using gm) (by simpa using g0) (by simpa using g1) (by simpa using g2)]
  have hp := attn_den_pos sm ok s
  simp only [mul_one]
  rw [div_coe_coe _ _ (mul_pos hp (Real.exp_pos _)).ne', mul_div_mul_right _ _ (Real.exp_pos _).ne']
  rfl

/-- THE TILE: query `r` and channel `64 * hb + e`, over real inputs, the masked biases `⊥`. -/
theorem tile_real (hb : Fin 2) (r : Fin 256) (e : Fin 64) (Q : Fin 64 → ℝ) (K : Fin 768 → Fin 64 → ℝ) (B : Fin 768 → ℝ)
    (ok : Fin 768 → Prop) [DecidablePred ok] (KM : Fin 16 → Fin 64 → ℝ) (VM : Fin 16 → ℝ) (V : Fin 768 → ℝ)
    (hq : ∀ d : Fin 64, q (ix2 r ⟨64 * hb + d, by omega⟩) = (Q d : EReal))
    (hk : ∀ n (d : Fin 64), kw (ix2 n ⟨64 * hb + d, by omega⟩) = (K n d : EReal))
    (h0 : hb = 0 → ∀ n, b0 (ix4 0 0 n r) = score (ok n) (B n))
    (h1 : hb = 1 → ∀ n, b1 (ix4 0 0 n r) = score (ok n) (B n))
    (hkm : ∀ n (d : Fin 64), km (ix2 n ⟨64 * hb + d, by omega⟩) = (KM n d : EReal))
    (hvm : ∀ i, vm (ix3 0 ⟨64 * hb + e, by omega⟩ i) = (VM i : EReal)) (gm : ∀ i, vm (ix3 0 128 i) = 1)
    (hv0 : ∀ i : Fin 256, v0 (ix3 0 ⟨64 * hb + e, by omega⟩ i) = (V ⟨i, by omega⟩ : EReal)) (g0 : ∀ i, v0 (ix3 0 128 i) = 1)
    (hv1 : ∀ i : Fin 256, v1 (ix3 0 ⟨64 * hb + e, by omega⟩ i) = (V ⟨256 + i, by omega⟩ : EReal)) (g1 : ∀ i, v1 (ix3 0 128 i) = 1)
    (hv2 : ∀ i : Fin 256, v2 (ix3 0 ⟨64 * hb + e, by omega⟩ i) = (V ⟨512 + i, by omega⟩ : EReal)) (g2 : ∀ i, v2 (ix3 0 128 i) = 1) :
    tile q kw b0 b1 km vm v0 v1 v2 (ix2 r ⟨64 * hb + e, by omega⟩)
      = (attn (fun i => (∑ d, Q d * KM i d) * (1 / 8)) VM ok (fun n => (∑ d, Q d * K n d) * (1 / 8) + B n) V : EReal) := by
  have hdot : ∀ X : Fin 64 → ℝ, (∑ d, (X d : EReal) * ((Q d : EReal) * cq))
      = (((Real.log 2)⁻¹ * ((∑ d, Q d * X d) * (1 / 8)) : ℝ) : EReal) := by
    intro X
    simp only [cq_eq, ← EReal.coe_mul, ← coe_sum]
    congr 1
    rw [Finset.sum_mul, Finset.mul_sum]
    exact Finset.sum_congr rfl fun d _ => by ring
  have hscore : ∀ (p : Prop) [Decidable p] (x y : ℝ), (((Real.log 2)⁻¹ * x : ℝ) : EReal) + score p y * cl
      = score p ((Real.log 2)⁻¹ * (x + y)) := by
    intro p _ x y
    rw [cl_eq]
    unfold score; split
    · rw [← EReal.coe_mul, ← EReal.coe_add]; congr 1; ring
    · rw [EReal.bot_mul_coe_of_pos (inv_pos.2 (Real.log_pos one_lt_two)), EReal.add_bot]
  unfold tile
  rw [stored_eq, out_at]
  obtain rfl | rfl : hb = 0 ∨ hb = 1 := by omega
  · have hq' : ∀ d : Fin 64, q (ix2 r ⟨d, by omega⟩) = (Q d : EReal) := fun d =>
      (congrArg (fun x => q (ix2 r x)) (Fin.ext (by simp))).trans (hq d)
    have hk' : ∀ n (d : Fin 64), kw (ix2 n ⟨d, by omega⟩) = (K n d : EReal) := fun n d =>
      (congrArg (fun x => kw (ix2 n x)) (Fin.ext (by simp))).trans (hk n d)
    have hkm' : ∀ n (d : Fin 64), km (ix2 n ⟨d, by omega⟩) = (KM n d : EReal) := fun n d =>
      (congrArg (fun x => km (ix2 n x)) (Fin.ext (by simp))).trans (hkm n d)
    rw [if_pos (by show 64 * 0 + (e : ℕ) < 64; omega)]
    refine acc_div _ ok _ VM V _ _ _ _ _ _ _ _ _ _ (fun n => ?_) (fun n => ?_) hvm hv0 hv1 hv2 gm g0 g1 g2 _ (max_at ..)
    · rw [scores_lo, h0 rfl, ← hscore, ← hdot]
      simp only [hq', hk']
    · rw [meta_lo, ← hdot]
      simp only [hq', hkm']
  · rw [if_neg (by show ¬ 64 * 1 + (e : ℕ) < 64; omega)]
    refine acc_div _ ok _ VM V _ _ _ _ _ _ _ _ _ _ (fun n => ?_) (fun n => ?_) hvm hv0 hv1 hv2 gm g0 g1 g2 _ (max_at ..)
    · rw [scores_hi, h1 rfl, ← hscore, ← hdot]
      exact congrArg (· + _) (Finset.sum_congr rfl fun d _ => congrArg₂ (· * ·) (hk n d) (congrArg (· * _) (hq d)))
    · rw [meta_hi, ← hdot]
      exact Finset.sum_congr rfl fun d _ => congrArg₂ (· * ·) (hkm n d) (congrArg (· * _) (hq d))

end Cert.KernelIdeal.Tile

end
-- ==== Proof.Pieces.lean ====
/- What one grid point leaves in its output block: sixteen tiles (four blocks of 256 queries, four pairs of heads), each
   `Tile.tile` over what it loads. The body's offsets are in words; here they are in numbers. -/
module

public import proofs.«01_k».proof.Proof.Gen.KernelIdeal.Value
public import proofs.«01_k».proof.Proof.Tile
public import Idealize.ShloMosaic.Lib.Pipeline.ValueKit
public import Idealize.ShloMosaic.Lib.Pipeline.ReadBack
public import Idealize.ShloMosaic.Lib.Tactic

@[expose] public section

set_option maxRecDepth 16384

noncomputable section

namespace Cert.KernelIdeal.Tile

open Cert.KernelIdeal Cert.KernelIdeal.Gen Idealize.ShloMosaic Idealize.ShloMosaic.TcCoe Idealize.SL.Sem

/-! ## The offsets -/

def qOff (qb pr : Fin 4) : Fin 2 → ℕ := ![256 * qb, 128 * pr]
def mOff (pr : Fin 4) : Fin 2 → ℕ := ![0, 128 * pr]
def mvOff (pr : Fin 4) : Fin 3 → ℕ := ![0, 144 * pr, 0]
def kOff (i : grid0.Coords) (qb : Fin 4) : Fin 4 → Fin 2 → ℕ
  | 0 => k0_off1 i (BitVec.ofNat 32 qb.val) | 1 => k0_off4 i (BitVec.ofNat 32 qb.val)
  | 2 => k0_off7 i (BitVec.ofNat 32 qb.val) | 3 => k0_off10 i (BitVec.ofNat 32 qb.val)
def b0Off (i : grid0.Coords) (qb : Fin 4) : Fin 4 → Fin 4 → ℕ
  | 0 => k0_off2 i (BitVec.ofNat 32 qb.val) | 1 => k0_off5 i (BitVec.ofNat 32 qb.val)
  | 2 => k0_off8 i (BitVec.ofNat 32 qb.val) | 3 => k0_off11 i (BitVec.ofNat 32 qb.val)
def b1Off (i : grid0.Coords) (qb : Fin 4) : Fin 4 → Fin 4 → ℕ
  | 0 => k0_off3 i (BitVec.ofNat 32 qb.val) | 1 => k0_off6 i (BitVec.ofNat 32 qb.val)
  | 2 => k0_off9 i (BitVec.ofNat 32 qb.val) | 3 => k0_off12 i (BitVec.ofNat 32 qb.val)
def vOff (i : grid0.Coords) (qb : Fin 4) (ch : Fin 3) : Fin 4 → Fin 3 → ℕ
  | 0 => k0_off13 i (BitVec.ofNat 32 qb.val) (BitVec.ofNat 32 ch.val) | 1 => k0_off14 i (BitVec.ofNat 32 qb.val) (BitVec.ofNat 32 ch.val)
  | 2 => k0_off15 i (BitVec.ofNat 32 qb.val) (BitVec.ofNat 32 ch.val) | 3 => k0_off16 i (BitVec.ofNat 32 qb.val) (BitVec.ofNat 32 ch.val)

theorem qOff_inb : ∀ qb pr : Fin 4, ∀ a, qOff qb pr a + S256x128.size a ≤ S1024x512.size a := by decide +kernel
theorem mOff_inb : ∀ pr : Fin 4, ∀ a, mOff pr a + S16x128.size a ≤ S16x512.size a := by decide +kernel
theorem mvOff_inb : ∀ pr : Fin 4, ∀ a, mvOff pr a + S1x144x16.size a ≤ S1x576x16.size a := by decide +kernel
theorem kOff_inb (i : grid0.Coords) (qb : Fin 4) : ∀ pr : Fin 4, ∀ a, kOff i qb pr a + S768x128.size a ≤ S4096x512.size a
  | 0 => k0_off1_inb i qb | 1 => k0_off4_inb i qb | 2 => k0_off7_inb i qb | 3 => k0_off10_inb i qb
theorem b0Off_inb (i : grid0.Coords) (qb : Fin 4) : ∀ pr : Fin 4, ∀ a, b0Off i qb pr a + S1x1x768x256.size a ≤ S3x8x768x256.size a
  | 0 => k0_off2_inb i qb | 1 => k0_off5_inb i qb | 2 => k0_off8_inb i qb | 3 => k0_off11_inb i qb
theorem b1Off_inb (i : grid0.Coords) (qb : Fin 4) : ∀ pr : Fin 4, ∀ a, b1Off i qb pr a + S1x1x768x256.size a ≤ S3x8x768x256.size a
  | 0 => k0_off3_inb i qb | 1 => k0_off6_inb i qb | 2 => k0_off9_inb i qb | 3 => k0_off12_inb i qb
theorem vOff_inb (i : grid0.Coords) (qb : Fin 4) (ch : Fin 3) : ∀ pr : Fin 4, ∀ a, vOff i qb ch pr a + S1x144x256.size a ≤ S16x576x256.size a
  | 0 => k0_off13_inb i qb ch | 1 => k0_off14_inb i qb ch | 2 => k0_off15_inb i qb ch | 3 => k0_off16_inb i qb ch

/-- The first row block of the window of query block `qb` at point `t`, and which of the three bias tables it takes. -/
def wlo (t : Fin cfg0.N) (qb : Fin 4) : ℕ := min (4 * (t.val % 4) + qb - 1) 13
def vrt (t : Fin cfg0.N) (qb : Fin 4) : ℕ := if 4 * (t.val % 4) + qb.val = 0 then 0 else if 4 * (t.val % 4) + qb.val = 15 then 2 else 1

theorem kOff_eq : ∀ (t : Fin cfg0.N) (qb pr : Fin 4), kOff (grid0.coords t) qb pr = ![256 * wlo t qb, 128 * pr] :=
  (by decide +kernel : ∀ (t : Fin grid0.N) (qb pr : Fin 4), kOff (grid0.coords t) qb pr = ![256 * wlo t qb, 128 * pr])
theorem b0Off_eq : ∀ (t : Fin cfg0.N) (qb pr : Fin 4), b0Off (grid0.coords t) qb pr = ![vrt t qb, 2 * pr, 0, 0] :=
  (by decide +kernel : ∀ (t : Fin grid0.N) (qb pr : Fin 4), b0Off (grid0.coords t) qb pr = ![vrt t qb, 2 * pr, 0, 0])
theorem b1Off_eq : ∀ (t : Fin cfg0.N) (qb pr : Fin 4), b1Off (grid0.coords t) qb pr = ![vrt t qb, 2 * pr + 1, 0, 0] :=
  (by decide +kernel : ∀ (t : Fin grid0.N) (qb pr : Fin 4), b1Off (grid0.coords t) qb pr = ![vrt t qb, 2 * pr + 1, 0, 0])
theorem vOff_eq : ∀ (t : Fin cfg0.N) (qb : Fin 4) (ch : Fin 3) (pr : Fin 4), vOff (grid0.coords t) qb ch pr = ![wlo t qb + ch, 144 * pr, 0] :=
  (by decide +kernel : ∀ (t : Fin grid0.N) (qb : Fin 4) (ch : Fin 3) (pr : Fin 4), vOff (grid0.coords t) qb ch pr = ![wlo t qb + ch, 144 * pr, 0])

/-! ## The tiles -/

section
variable {F : FTy → Type} [FloatOps F] [Named F]

/-- The tile of query block `qb` and head pair `pr`, over the point's input blocks. -/
def tileK (x0 : Vec F S1024x512 .bf16) (x1 : Vec F S4096x512 .bf16) (x2 : Vec F S16x576x256 .bf16) (x3 : Vec F S16x512 .bf16)
    (x4 : Vec F S1x576x16 .bf16) (x5 : Vec F S3x8x768x256 .f32) (i : grid0.Coords) (qb pr : Fin 4) : FVec F S256x128 .bf16 :=
  tile (View.ld x0 (Rect.unit (s := S1024x512) (qOff qb pr) S256x128.size (qOff_inb qb pr)))
    (View.ld x1 (Rect.unit (s := S4096x512) (kOff i qb pr) S768x128.size (kOff_inb i qb pr)))
    (View.ld x5 (Rect.unit (s := S3x8x768x256) (b0Off i qb pr) S1x1x768x256.size (b0Off_inb i qb pr)))
    (View.ld x5 (Rect.unit (s := S3x8x768x256) (b1Off i qb pr) S1x1x768x256.size (b1Off_inb i qb pr)))
    (View.ld x3 (Rect.unit (s := S16x512) (mOff pr) S16x128.size (mOff_inb pr)))
    (View.ld x4 (Rect.unit (s := S1x576x16) (mvOff pr) S1x144x16.size (mvOff_inb pr)))
    (View.ld x2 (Rect.unit (s := S16x576x256) (vOff i qb 0 pr) S1x144x256.size (vOff_inb i qb 0 pr)))
    (View.ld x2 (Rect.unit (s := S16x576x256) (vOff i qb 1 pr) S1x144x256.size (vOff_inb i qb 1 pr)))
    (View.ld x2 (Rect.unit (s := S16x576x256) (vOff i qb 2 pr) S1x144x256.size (vOff_inb i qb 2 pr)))

/-- The query block and the head pair of the `k`-th store from the last. -/
def qbOf (k : Fin 16) : Fin 4 := ⟨(15 - k) / 4, by omega⟩
def prOf (k : Fin 16) : Fin 4 := ⟨(15 - k) % 4, by omega⟩
end

variable (m : (ℓ : Loc nD τ sig) → Buf (Elt Ideal) ℓ)

theorem outs_eq (c : Dev nD) (t : Fin cfg0.N) :
    outsAt0 m c t = View.canon (Val := Elt Ideal) (s := S1024x512) (e := .bf16) (List.ofFn fun k : Fin 16 =>
      ⟨Rect.unit (s := S1024x512) (qOff (qbOf k) (prOf k)) S256x128.size (qOff_inb (qbOf k) (prOf k)),
        tileK (X0_0 m c t) (X0_1 m c t) (iblk m c 2 t) (X0_3 m c t) (iblk m c 4 t) (iblk m c 5 t) (grid0.coords t) (qbOf k) (prOf k)⟩) := by
  unfold outsAt0
  frame_out
  simp (disch := decide) only [View.readCov_fill, View.readCov_skip]
  sl_kernel_rfl

end Cert.KernelIdeal.Tile

end
-- ==== Proof.Gather.lean ====
/- A `stablehlo.gather` read at an index: the operand's coordinates, axis by axis, from facts about the dimension numbers that are decided on
   the literal shapes. -/
module

public import Idealize.ShloMosaic.Lib.ValueIdx
public import Idealize.ShloMosaic.Lib.Pointwise

@[expose] public section

namespace Cert.Nat2d

open Idealize.ShloMosaic

variable {s si t : Shape} (d : GatherDims s si t) (j : t.Idx)

/-- On a kept operand axis the offset is the result's coordinate on the offset axis in its position. -/
theorem offCoord_of (a : Fin s.rank) (k : Fin t.rank) (ha : a ∈ d.sKept) (hk : d.offsetDims[d.sKept.idxOf a]? = some k) :
    d.offCoord j a = (j k).val := by
  obtain ⟨_, e⟩ := List.getElem?_eq_some_iff.1 hk
  unfold GatherDims.offCoord
  rw [dif_pos ha, e]

/-- An axis outside the start index map starts at `0`. -/
theorem start_of_not_mem {w : ℕ} (idx : IVec si w) (a : Fin s.rank) (ha : a ∉ d.startIndexMap) : d.start j idx a = 0 := by
  unfold GatherDims.start
  rw [dif_neg ha]

/-- A kept axis of the start indices reads the result's coordinate on the batch axis in its position. -/
theorem siIdx_of (c : Fin d.startIndexMap.length) (b : Fin si.rank) (k : Fin t.rank) (hb : b.val ≠ d.indexVectorDim)
    (hk : d.batchDims[d.siKept.idxOf b]? = some k) : (d.siIdx j c b).val = (j k).val := by
  obtain ⟨_, e⟩ := List.getElem?_eq_some_iff.1 hk
  unfold GatherDims.siIdx
  rw [dif_neg hb]
  unfold GatherDims.siCoord
  show (j _).val = _
  rw [e]

/-- The index vector's axis reads the component. -/
theorem siIdx_vec (c : Fin d.startIndexMap.length) (b : Fin si.rank) (hb : b.val = d.indexVectorDim) : (d.siIdx j c b).val = c.val := by
  unfold GatherDims.siIdx
  rw [dif_pos hb]

/-- A mapped axis starts at the start index, read signed and clamped. -/
theorem start_of_mem {w : ℕ} (idx : IVec si w) (a : Fin s.rank) (ha : a ∈ d.startIndexMap) (z : si.Idx)
    (hz : ∀ b, (d.siIdx j ⟨d.startIndexMap.idxOf a, List.idxOf_lt_length_iff.2 ha⟩ b).val = (z b).val) :
    d.start j idx a = min (idx z).toInt.toNat (s.size a - d.sliceSizes a) := by
  unfold GatherDims.start
  rw [dif_pos ha, show d.siIdx j ⟨d.startIndexMap.idxOf a, List.idxOf_lt_length_iff.2 ha⟩ = z from funext fun b => Fin.ext (hz b)]

end Cert.Nat2d

end
-- ==== Proof.Spec.lean ====
/- Neighbourhood attention on a 64 x 64 grid over the real numbers: which keys a query attends, and arrays of reals read at plain numbers. -/
module

public import proofs.«01_k».proof.Proof.Math
public import Idealize.ShloMosaic.Lib.Pointwise

@[expose] public section

noncomputable section

namespace Cert.Nat2d

open Idealize.ShloMosaic

/-- The first of the 8 grid rows attended from row `r`. -/
def rs (r : ℕ) : ℕ := min (r - 4) 56
/-- The first of the 16 grid columns attended from column `x`. -/
def cs (x : ℕ) : ℕ := min (x - 8) 48

/-- The rows and the columns attended. -/
def rowOk (r y : ℕ) : Prop := rs r ≤ y ∧ y < rs r + 8
def colOk (x y : ℕ) : Prop := cs x ≤ y ∧ y < cs x + 16

instance (r y : ℕ) : Decidable (rowOk r y) := inferInstanceAs (Decidable (_ ∧ _))
instance (r y : ℕ) : Decidable (colOk r y) := inferInstanceAs (Decidable (_ ∧ _))

/-- A rank-2 and a rank-3 array of reals, read at plain numbers. -/
def rd2 {a b : ℕ} (X : (⟨2, ![a, b]⟩ : Shape).Idx → EReal) (i j : ℕ) : ℝ :=
  if h : i < a ∧ j < b then (X (ix2 ⟨i, h.1⟩ ⟨j, h.2⟩)).toReal else 0
def rd3 {a b c : ℕ} (X : (⟨3, ![a, b, c]⟩ : Shape).Idx → EReal) (i j k : ℕ) : ℝ :=
  if h : i < a ∧ j < b ∧ k < c then (X (ix3 ⟨i, h.1⟩ ⟨j, h.2.1⟩ ⟨k, h.2.2⟩)).toReal else 0

theorem rd2_eq {a b : ℕ} (X : (⟨2, ![a, b]⟩ : Shape).Idx → EReal) (hX : ∀ x, X x = ((X x).toReal : EReal)) (i j : ℕ) (hi : i < a) (hj : j < b) :
    X (ix2 ⟨i, hi⟩ ⟨j, hj⟩) = (rd2 X i j : EReal) := by
  rw [rd2, dif_pos ⟨hi, hj⟩]; exact hX _
theorem rd3_eq {a b c : ℕ} (X : (⟨3, ![a, b, c]⟩ : Shape).Idx → EReal) (hX : ∀ x, X x = ((X x).toReal : EReal)) (i j k : ℕ) (hi : i < a) (hj : j < b)
    (hk : k < c) : X (ix3 ⟨i, hi⟩ ⟨j, hj⟩ ⟨k, hk⟩) = (rd3 X i j k : EReal) := by
  rw [rd3, dif_pos ⟨hi, hj, hk⟩]; exact hX _

theorem rd2_of {a b : ℕ} (X : (⟨2, ![a, b]⟩ : Shape).Idx → EReal) (hX : ∀ x, X x = ((X x).toReal : EReal)) (k : Fin a) (l : Fin b) (i j : ℕ)
    (hi : k.val = i) (hj : l.val = j) : X (ix2 k l) = (rd2 X i j : EReal) := by
  subst hi hj; exact rd2_eq X hX _ _ k.isLt l.isLt

/-- The score of grid position `(y, z)` for the query at `(r, x)`, in batch `b` and head `h`. -/
def gridScore (X0 : (⟨2, ![65536, 3840]⟩ : Shape).Idx → EReal) (X2 : (⟨3, ![8, 15, 31]⟩ : Shape).Idx → EReal) (b r x h y z : ℕ) : ℝ :=
  (∑ d : Fin 64, rd2 X0 (4096 * b + 64 * r + x) (1536 + 64 * h + d) * rd2 X0 (4096 * b + 64 * y + z) (2048 + 64 * h + d)) * (1 / 8)
    + rd3 X2 h (y + 7 - r) (z + 15 - x)

/-- The score of meta token `i`. -/
def metaScore (X0 : (⟨2, ![65536, 3840]⟩ : Shape).Idx → EReal) (X1 : (⟨2, ![256, 3840]⟩ : Shape).Idx → EReal) (b r x h i : ℕ) : ℝ :=
  (∑ d : Fin 64, rd2 X0 (4096 * b + 64 * r + x) (1536 + 64 * h + d) * rd2 X1 (16 * b + i) (2048 + 64 * h + d)) * (1 / 8)

/-- NEIGHBOURHOOD ATTENTION: channel `e` of head `h` at grid position `(r, x)` of batch `b`. -/
def natOut (X0 : (⟨2, ![65536, 3840]⟩ : Shape).Idx → EReal) (X1 : (⟨2, ![256, 3840]⟩ : Shape).Idx → EReal)
    (X2 : (⟨3, ![8, 15, 31]⟩ : Shape).Idx → EReal) (b r x h e : ℕ) : ℝ :=
  attn (fun i : Fin 16 => metaScore X0 X1 b r x h i) (fun i => rd2 X1 (16 * b + i) (2560 + 64 * h + e))
    (fun k : Fin 64 × Fin 64 => rowOk r k.1 ∧ colOk x k.2) (fun k => gridScore X0 X2 b r x h k.1 k.2)
    (fun k => rd2 X0 (4096 * b + 64 * k.1 + k.2) (2560 + 64 * h + e))

/-- A sum over the 12 rows of a window is the sum over the whole grid, of what vanishes outside the window. -/
theorem window_sum (w : ℕ) (hw : w ≤ 52) (G : ℕ → ℕ → ℝ) (hG : ∀ y z, ¬ (w ≤ y ∧ y < w + 12) → G y z = 0) :
    ∑ n : Fin 768, G (w + n / 64) (n % 64) = ∑ k : Fin 64 × Fin 64, G k.1 k.2 := by
  rw [Fintype.sum_prod_type, ← (finProdFinEquiv (m := 12) (n := 64)).sum_comp (fun n : Fin 768 => G (w + n / 64) (n % 64)), Fintype.sum_prod_type]
  have e : ∀ (a : Fin 12) (z : Fin 64), G (w + (finProdFinEquiv (a, z) : Fin (12 * 64)) / 64) ((finProdFinEquiv (a, z) : Fin (12 * 64)) % 64) = G (w + a) z := by
    intro a z
    have : ((finProdFinEquiv (a, z) : Fin (12 * 64)) : ℕ) = z + 64 * a := rfl
    rw [this]
    congr 1 <;> omega
  simp only [e]
  rw [Fin.sum_univ_eq_sum_range (fun a => ∑ z : Fin 64, G (w + a) z) 12, Fin.sum_univ_eq_sum_range (fun y => ∑ z : Fin 64, G y z) 64]
  have h2 := Finset.sum_Ico_eq_sum_range (fun y => ∑ z : Fin 64, G y z) w (w + 12)
  rw [Nat.add_sub_cancel_left] at h2
  rw [← h2]
  refine Finset.sum_subset (fun y hy => ?_) fun y _ hy => ?_
  · rw [Finset.mem_Ico] at hy; rw [Finset.mem_range]; omega
  · rw [Finset.mem_Ico] at hy
    exact Finset.sum_eq_zero fun z _ => hG _ _ hy

/-- Attention over a window holding every attended row is attention over the whole grid. -/
theorem window_attn (w r x : ℕ) (hw : w ≤ 52) (hr : ∀ y, rowOk r y → w ≤ y ∧ y < w + 12) (sm vm : Fin 16 → ℝ) (S V : ℕ → ℕ → ℝ) :
    attn sm vm (fun n : Fin 768 => rowOk r (w + n / 64) ∧ colOk x (n % 64)) (fun n => S (w + n / 64) (n % 64)) (fun n => V (w + n / 64) (n % 64))
      = attn sm vm (fun k : Fin 64 × Fin 64 => rowOk r k.1 ∧ colOk x k.2) (fun k => S k.1 k.2) (fun k => V k.1 k.2) := by
  have hz : ∀ y z, ¬ (w ≤ y ∧ y < w + 12) → wt (rowOk r y ∧ colOk x z) (S y z) = 0 := fun y z h => by
    unfold wt; rw [if_neg]; exact fun k => h (hr y k.1)
  unfold attn
  rw [window_sum w hw (fun y z => wt (rowOk r y ∧ colOk x z) (S y z)) hz,
    window_sum w hw (fun y z => wt (rowOk r y ∧ colOk x z) (S y z) * V y z) fun y z h => by rw [hz y z h, zero_mul]]

end Cert.Nat2d

end
-- ==== Proof.HostTab.lean ====
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.Gather
public import proofs.«01_k».proof.Proof.Spec

@[expose] public section

set_option maxRecDepth 16384

noncomputable section

namespace Cert.KernelIdeal.Tile

open Cert.Nat2d Cert.KernelIdeal Cert.KernelIdeal.Gen Idealize.ShloMosaic Idealize.ShloMosaic.TcCoe Idealize.SL.Sem

/-- The grid row of variant `v`'s query row `qr`, and its window's first row. -/
def vrow (v qr : ℕ) : ℕ := if v = 0 then qr else if v = 1 then 4 + qr else 60 + qr
def vwin (v : ℕ) : ℕ := if v = 2 then 52 else 0

/-- The row of the bias table of variant `v` for query row `qr` and window row `kr`: 15 when the row is not attended. -/
def tIdx (v qr kr : ℕ) : ℕ := if rowOk (vrow v qr) (vwin v + kr) then vwin v + kr + 7 - vrow v qr else 15

/-- The printed table of rows, and the printed table of attended columns. -/
def T1 : S144.Idx → BitVec 32 := fun i => BitVec.ofNat 32 (tIdx ((i 0 : ℕ) / 48) ((i 0 : ℕ) / 12 % 4) ((i 0 : ℕ) % 12))
def T0 : S64x64.Idx → BitVec 1 := fun i => BitVec.ofBool (decide (colOk (i 0 : ℕ) (i 1 : ℕ)))

theorem lit1_eq : ∀ k : Fin 144, lit1 (S144.rowMajor (ix1 k)) = T1 (ix1 k) := by
  decide +kernel

theorem lit0_eq : ∀ (x y : Fin 64), lit0 (S64x64.rowMajor (ix2 x y)) = T0 (ix2 x y) := by
  decide +kernel

theorem lit1_fun : (fun i => lit1 (S144.rowMajor i)) = T1 := by
  funext i; idx_vars i; exact lit1_eq _

theorem lit0_fun : (fun i => lit0 (S64x64.rowMajor i)) = T0 := by
  funext i; idx_vars i; exact lit0_eq _ _

theorem T1_at (v : Fin 3) (qr : Fin 4) (kr : Fin 12) : T1 (ix1 ⟨v * 48 + qr * 12 + kr, by omega⟩) = BitVec.ofNat 32 (tIdx v qr kr) := by
  show BitVec.ofNat 32 (tIdx ((v * 48 + qr * 12 + kr : ℕ) / 48) ((v * 48 + qr * 12 + kr : ℕ) / 12 % 4) ((v * 48 + qr * 12 + kr : ℕ) % 12)) = _
  congr 2 <;> omega

theorem gather_at (X : Vec Ideal S8x16x64x64 .f32) (I : IVec S144x1 32) (h : Fin 8) (k : Fin 144) (x y : Fin 64) :
    Host.gather gather_S8x16x64x64_S144x1_S8x144x64x64_023_1_n_n_1_1_816464 X I (ix4 h k x y)
      = X (ix4 h ⟨min (I (ix2 k 0)).toInt.toNat 15, by omega⟩ x y) := by
  unfold Host.gather
  congr 1
  funext a
  refine Fin.ext ?_
  show GatherDims.start _ _ _ a + GatherDims.batchCoord _ _ a + GatherDims.offCoord _ _ a = _
  rw [GatherDims.batchCoord_eq_zero _ _ _ (show a ∉ [] from List.not_mem_nil)]
  fin_cases a
  · rw [start_of_not_mem _ _ _ _ (by decide +kernel), offCoord_of _ _ _ 0 (by decide +kernel) (by decide +kernel)]
    simp
  · rw [start_of_mem _ _ _ _ (by decide +kernel) (ix2 k 0) (fun b => by
      fin_cases b
      · refine siIdx_of gather_S8x16x64x64_S144x1_S8x144x64x64_023_1_n_n_1_1_816464 _ _ (0 : Fin 2) (1 : Fin 4) ?_ ?_ <;> decide +kernel
      · exact siIdx_vec _ _ _ _ rfl), GatherDims.offCoord_eq_zero _ _ _ (by decide +kernel)]
    rfl
  · rw [start_of_not_mem _ _ _ _ (by decide +kernel), offCoord_of _ _ _ 2 (by decide +kernel) (by decide +kernel)]
    simp
  · rw [start_of_not_mem _ _ _ _ (by decide +kernel), offCoord_of _ _ _ 3 (by decide +kernel) (by decide +kernel)]
    simp

theorem tIdx_lt : ∀ (v : Fin 3) (qr : Fin 4) (kr : Fin 12), tIdx v qr kr < 15 ↔ rowOk (vrow v qr) (vwin v + kr) := by
  decide +kernel

/-- What the gather's wrap, bound test and clamp make of a row of the table. -/
def RowWord (w : BitVec 32) (n : ℕ) : Prop :=
  Scalar.select (IntOp.cmpi CmpIPredicate.slt w 0#32) (IntOp.addi w 16#32) w = w
    ∧ IntOp.andi (IntOp.cmpi CmpIPredicate.sge w 0#32) (IntOp.cmpi CmpIPredicate.sle w 15#32) = 1#1
    ∧ min w.toInt.toNat 15 = n

theorem row_word : ∀ n : Fin 16, RowWord (BitVec.ofNat 32 n) n := by
  unfold RowWord; decide +kernel

theorem tIdx_lt16 (v qr kr : ℕ) : tIdx v qr kr < 16 := by
  unfold tIdx
  by_cases h : rowOk (vrow v qr) (vwin v + kr)
  · rw [if_pos h]; unfold rowOk rs at h; omega
  · rw [if_neg h]; omega

theorem T1_word (v : Fin 3) (qr : Fin 4) (kr : Fin 12) : RowWord (T1 (ix1 ⟨v * 48 + qr * 12 + kr, by omega⟩)) (tIdx v qr kr) := by
  rw [T1_at]; exact row_word ⟨_, tIdx_lt16 ..⟩

theorem ninf : Ideal.ofBits .f32 0xFF800000#32 = ⊥ := by simp [Ideal.ofBits, Ideal.ieee]

theorem bias_scalar (X : S8x15x31.Idx → EReal) (hX : ∀ x, X x = ((X x).toReal : EReal)) (h : Fin 8) (x y : Fin 64) (w : BitVec 32) (u : BitVec 1) (n : ℕ)
    (rok : Prop) [Decidable rok] (z : ℕ) (hu : u = BitVec.ofBool (decide (colOk x y)))
    (hg : IntOp.andi (IntOp.cmpi CmpIPredicate.sge w 0#32) (IntOp.cmpi CmpIPredicate.sle w 15#32) = 1#1) (hc : min w.toInt.toNat 15 = n)
    (hn : n < 15 ↔ rok) (hz : rok → n = z) :
    Scalar.select (Finset.fold IntOp.andi (1#1) (fun _ : Fin 1 => IntOp.andi (IntOp.cmpi CmpIPredicate.sge w 0#32) (IntOp.cmpi CmpIPredicate.sle w 15#32)) Finset.univ)
      (if h_1 : min w.toInt.toNat 15 < 15 then
        Scalar.select u
          (if h_2 : ((x : ℕ) * 127 + (63 + (y : ℕ))) % 128 < 127 then
            if h_3 : 48 ≤ ((x : ℕ) * 127 + (63 + (y : ℕ))) % 128 ∧ ((x : ℕ) * 127 + (63 + (y : ℕ))) % 128 - 48 < 31 then
              X (ix3 h ⟨min w.toInt.toNat 15, h_1⟩ ⟨((x : ℕ) * 127 + (63 + (y : ℕ))) % 128 - 48, h_3.2⟩)
            else FloatOps.sitofp (F := Ideal) FTy.f32 0#32
          else 0)
          (Ideal.ofBits FTy.f32 0xFF800000#32)
      else Ideal.ofBits FTy.f32 0xFF800000#32)
      (Ideal.ofBits FTy.f32 0x7FC00000#32)
    = score (rok ∧ colOk x y) (rd3 (a := 8) (b := 15) (c := 31) X h z (y + 15 - x)) := by
  rw [hg, ninf]
  generalize Ideal.ofBits FTy.f32 0x7FC00000#32 = Z
  generalize (FloatOps.sitofp (F := Ideal) FTy.f32 0#32 : EReal) = Z'
  rw [show Finset.fold IntOp.andi (1#1) (fun _ : Fin 1 => 1#1) Finset.univ = 1#1 from by decide]
  rw [show ∀ a b : EReal, Scalar.select 1#1 a b = a from fun _ _ => rfl]
  by_cases hr : rok
  · rw [dif_pos (hc.symm ▸ hn.2 hr)]
    by_cases hcc : colOk x y
    · have hu1 : u = 1#1 := by rw [hu]; simp [hcc]
      rw [hu1, show ∀ a b : EReal, Scalar.select 1#1 a b = a from fun _ _ => rfl, score, if_pos ⟨hr, hcc⟩]
      have hmod : ((x : ℕ) * 127 + (63 + y)) % 128 = y + 63 - x := by omega
      unfold colOk cs at hcc
      have hI' := hz hr
      have hI2 := hn.2 hr
      rw [dif_pos (by omega), dif_pos (by omega), ← rd3_eq _ hX _ _ _ (by omega) (by omega) (by omega)]
      congr 1
      congr 1 <;> refine Fin.ext ?_
      · exact hc.trans hI'
      · simp only; omega
    · have hu0 : u = 0#1 := by rw [hu]; simp [hcc]
      rw [hu0, show ∀ a b : EReal, Scalar.select 0#1 a b = b from fun _ _ => rfl, score, if_neg fun h => hcc h.2]
  · rw [dif_neg (fun h => hr (hn.1 (hc ▸ h))), score, if_neg fun h => hr h.1]

theorem bias_final (X : S8x15x31.Idx → EReal) (hX : ∀ x, X x = ((X x).toReal : EReal)) (T : S144.Idx → BitVec 32) (U : S64x64.Idx → BitVec 1)
    (hT : T = T1) (hU : U = T0) (v : Fin 3) (h : Fin 8) (kr : Fin 12) (y : Fin 64) (qr : Fin 4) (x : Fin 64) :
    Scalar.select (Finset.fold IntOp.andi (1#1) (fun _ : Fin 1 => IntOp.andi (IntOp.cmpi CmpIPredicate.sge (Scalar.select (IntOp.cmpi CmpIPredicate.slt (T (ix1 ⟨(v : ℕ) * 48 + (qr : ℕ) * 12 + (kr : ℕ), by omega⟩)) 0#32) (IntOp.addi (T (ix1 ⟨(v : ℕ) * 48 + (qr : ℕ) * 12 + (kr : ℕ), by omega⟩)) 16#32) (T (ix1 ⟨(v : ℕ) * 48 + (qr : ℕ) * 12 + (kr : ℕ), by omega⟩))) 0#32) (IntOp.cmpi CmpIPredicate.sle (Scalar.select (IntOp.cmpi CmpIPredicate.slt (T (ix1 ⟨(v : ℕ) * 48 + (qr : ℕ) * 12 + (kr : ℕ), by omega⟩)) 0#32) (IntOp.addi (T (ix1 ⟨(v : ℕ) * 48 + (qr : ℕ) * 12 + (kr : ℕ), by omega⟩)) 16#32) (T (ix1 ⟨(v : ℕ) * 48 + (qr : ℕ) * 12 + (kr : ℕ), by omega⟩))) 15#32)) Finset.univ)
      (if h_1 : min (BitVec.toInt (Scalar.select (IntOp.cmpi CmpIPredicate.slt (T (ix1 ⟨(v : ℕ) * 48 + (qr : ℕ) * 12 + (kr : ℕ), by omega⟩)) 0#32) (IntOp.addi (T (ix1 ⟨(v : ℕ) * 48 + (qr : ℕ) * 12 + (kr : ℕ), by omega⟩)) 16#32) (T (ix1 ⟨(v : ℕ) * 48 + (qr : ℕ) * 12 + (kr : ℕ), by omega⟩)))).toNat 15 < 15 then
        Scalar.select (U (ix2 x y))
          (if h_2 : ((x : ℕ) * 127 + (63 + (y : ℕ))) % 128 < 127 then
            if h_3 : 48 ≤ ((x : ℕ) * 127 + (63 + (y : ℕ))) % 128 ∧ ((x : ℕ) * 127 + (63 + (y : ℕ))) % 128 - 48 < 31 then
              X (ix3 h ⟨min (BitVec.toInt (Scalar.select (IntOp.cmpi CmpIPredicate.slt (T (ix1 ⟨(v : ℕ) * 48 + (qr : ℕ) * 12 + (kr : ℕ), by omega⟩)) 0#32) (IntOp.addi (T (ix1 ⟨(v : ℕ) * 48 + (qr : ℕ) * 12 + (kr : ℕ), by omega⟩)) 16#32) (T (ix1 ⟨(v : ℕ) * 48 + (qr : ℕ) * 12 + (kr : ℕ), by omega⟩)))).toNat 15, h_1⟩ ⟨((x : ℕ) * 127 + (63 + (y : ℕ))) % 128 - 48, h_3.2⟩)
            else FloatOps.sitofp (F := Ideal) FTy.f32 0#32
          else 0)
          (Ideal.ofBits FTy.f32 0xFF800000#32)
      else Ideal.ofBits FTy.f32 0xFF800000#32)
      (Ideal.ofBits FTy.f32 0x7FC00000#32)
    = score (rowOk (vrow v qr) (vwin v + kr) ∧ colOk x y) (rd3 (a := 8) (b := 15) (c := 31) X h (vwin v + kr + 7 - vrow v qr) (y + 15 - x)) := by
  have hI15 := tIdx_lt v qr kr
  have hIr : rowOk (vrow v qr) (vwin v + kr) → tIdx v qr kr = vwin v + kr + 7 - vrow v qr := by
    intro hr; rw [tIdx, if_pos hr]
  have hw := T1_word v qr kr
  rw [← hT] at hw
  have hu : U (ix2 x y) = BitVec.ofBool (decide (colOk x y)) := by rw [hU]; rfl
  generalize tIdx v qr kr = I at *
  obtain ⟨hsel, hguard, hclamp⟩ := hw
  exact bias_scalar X hX h x y _ _ I _ _ hu (by rw [hsel]; exact hguard) (by rw [hsel]; exact hclamp) hI15 hIr

end Cert.KernelIdeal.Tile

end
-- ==== Proof.Host.lean ====
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.HostTab

@[expose] public section

set_option maxRecDepth 16384

noncomputable section

namespace Cert.KernelIdeal.Tile

open Cert.Nat2d Cert.KernelIdeal Cert.KernelIdeal.Gen Idealize.ShloMosaic Idealize.ShloMosaic.TcCoe Idealize.SL.Sem

variable (m : (ℓ : Loc nD τ sig) → Buf (Elt Ideal) ℓ) (c : Dev nD)

set_option maxHeartbeats 1000000 in
theorem v30_at (hX : ∀ x, m ((c : Thread nD τ).loc main_arg2) x = ((m ((c : Thread nD τ).loc main_arg2) x : EReal).toReal : EReal))
    (R : EReal) (v : Fin 3) (h : Fin 8) (kr : Fin 12) (y : Fin 64) (qr : Fin 4) (x : Fin 64)
    (hR0 : R = score (rowOk (vrow v qr) (vwin v + kr) ∧ colOk x y)
          (rd3 (a := 8) (b := 15) (c := 31) (m ((c : Thread nD τ).loc main_arg2)) h (vwin v + kr + 7 - vrow v qr) (y + 15 - x))) :
    V m c main_v30 (ix4 v h ⟨64 * kr + y, by omega⟩ ⟨64 * qr + x, by omega⟩)
      = R := by
  simp only [V, hostOps0, hostOps0_1, hostOps0_2, hostOps0_3, hostOps0_4, hostOps0_5, hostOps0_6, List.flatten_cons, List.flatten_nil, List.append_nil, List.cons_append,
      List.nil_append]
  entry_read
  simp only [StableHlo.TRef.toBuf, StableHlo.TRef.ofBuf, cast_eq]
  generalize hT : (fun i => lit1 (S144.rowMajor i)) = T
  generalize hU : (fun i => lit0 (S64x64.rowMajor i)) = U
  have hT1 : T = T1 := hT.symm.trans lit1_fun
  have hU1 : U = T0 := hU.symm.trans lit0_fun
  clear hT hU
  pointwise
  rw [gather_at]
  pointwise
  rw [hR0]
  exact bias_final _ hX T U hT1 hU1 v h kr y qr x

theorem v0_at (a : Fin 65536) (j : Fin 3840) : V m c main_v0 (ix2 a j) = m ((c : Thread nD τ).loc main_arg0) (ix2 a j) := by
  simp only [V, hostOps0, hostOps0_1, hostOps0_2, hostOps0_3, hostOps0_4, hostOps0_5, hostOps0_6, List.flatten_cons, List.flatten_nil, List.append_nil, List.cons_append,
      List.nil_append]
  entry_read
  pointwise

theorem v1_at (a : Fin 256) (j : Fin 3840) : V m c main_v1 (ix2 a j) = m ((c : Thread nD τ).loc main_arg1) (ix2 a j) := by
  simp only [V, hostOps0, hostOps0_1, hostOps0_2, hostOps0_3, hostOps0_4, hostOps0_5, hostOps0_6, List.flatten_cons, List.flatten_nil, List.append_nil, List.cons_append,
      List.nil_append]
  entry_read
  pointwise

theorem v7_at (a : Fin 256) (p : Fin 4) (l : Fin 144) (i : Fin 256) : V m c main_v7 (ix3 a ⟨144*p+l, by omega⟩ i)
    = if h : (l : ℕ) < 128 then m ((c : Thread nD τ).loc main_arg0) (ix2 ⟨256 * a + i, by omega⟩ ⟨2560 + (128 * p + l), by omega⟩) else (1 : EReal) := by
  simp only [V, hostOps0, hostOps0_1, hostOps0_2, hostOps0_3, hostOps0_4, hostOps0_5, hostOps0_6, List.flatten_cons, List.flatten_nil, List.append_nil, List.cons_append,
      List.nil_append]
  entry_read
  pointwise
  simp only [Nat.mul_comm]

theorem v13_at (a : Fin 16) (p : Fin 4) (l : Fin 144) (i : Fin 16) : V m c main_v13 (ix3 a ⟨144*p+l, by omega⟩ i)
    = if h : (l : ℕ) < 128 then m ((c : Thread nD τ).loc main_arg1) (ix2 ⟨16 * a + i, by omega⟩ ⟨2560 + (128 * p + l), by omega⟩) else (1 : EReal) := by
  simp only [V, hostOps0, hostOps0_1, hostOps0_2, hostOps0_3, hostOps0_4, hostOps0_5, hostOps0_6, List.flatten_cons, List.flatten_nil, List.append_nil, List.cons_append,
      List.nil_append]
  entry_read
  pointwise
  simp only [Nat.mul_comm]

end Cert.KernelIdeal.Tile

end
-- ==== Proof.Blocks.lean ====
module

public import proofs.«01_k».proof.Proof.Pieces
public import proofs.«01_k».proof.Proof.Host
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Tile

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The index maps -/

theorem idx0 : ∀ t : Fin cfg0.N, win0_0.index t 0 = t.val ∧ win0_0.index t 1 = 3 := (by decide +kernel : ∀ t : Fin grid0.N, _)
theorem idx1 : ∀ t : Fin cfg0.N, win0_1.index t 0 = t.val / 4 ∧ win0_1.index t 1 = 4 := (by decide +kernel : ∀ t : Fin grid0.N, _)
theorem idx2 : ∀ t : Fin cfg0.N, win0_2.index t 0 = t.val / 4 ∧ win0_2.index t 1 = 0 ∧ win0_2.index t 2 = 0 := (by decide +kernel : ∀ t : Fin grid0.N, _)
theorem idx3 : ∀ t : Fin cfg0.N, win0_3.index t 0 = t.val / 4 ∧ win0_3.index t 1 = 4 := (by decide +kernel : ∀ t : Fin grid0.N, _)
theorem idx4 : ∀ t : Fin cfg0.N, win0_4.index t 0 = t.val / 4 ∧ win0_4.index t 1 = 0 ∧ win0_4.index t 2 = 0 := (by decide +kernel : ∀ t : Fin grid0.N, _)
theorem idx5 : ∀ t : Fin cfg0.N, ∀ a, win0_5.index t a = 0 := (by decide +kernel : ∀ t : Fin grid0.N, ∀ a, win0_5.index t a = 0)

theorem tN (t : Fin cfg0.N) : t.val < 64 := t.isLt

/-! ## What the body finds in its buffers -/

theorem x0_at (t : Fin cfg0.N) (a : Fin 1024) (j : Fin 512) :
    X0_0 m c t (ix2 a j) = m ((c : Thread nD τ).loc main_arg0) (ix2 ⟨1024 * t.val + a, by have := tN t; omega⟩ ⟨1536 + j, by omega⟩) := by
  refine Eq.trans ?_ (v0_at m c _ _)
  unfold X0_0 Pipeline.Window.fill
  rw [dif_pos (moved0_0 t _)]
  have h := idx0 t
  blk_simp [iblk]
  refine congrArg _ (funext fun b => Fin.ext ?_)
  blk_simp []
  fin_cases b
  · simp [h.1]; omega
  · simp [h.2]

theorem x1_at (t : Fin cfg0.N) (a : Fin 4096) (j : Fin 512) :
    X0_1 m c t (ix2 a j) = m ((c : Thread nD τ).loc main_arg0) (ix2 ⟨4096 * (t.val / 4) + a, by have := tN t; omega⟩ ⟨2048 + j, by omega⟩) := by
  refine Eq.trans ?_ (v0_at m c _ _)
  unfold X0_1 Pipeline.Window.fill
  rw [dif_pos (moved0_1 t _)]
  have h := idx1 t
  blk_simp [iblk]
  refine congrArg _ (funext fun b => Fin.ext ?_)
  blk_simp []
  fin_cases b
  · simp [h.1]; omega
  · simp [h.2]

theorem x3_at (t : Fin cfg0.N) (a : Fin 16) (j : Fin 512) :
    X0_3 m c t (ix2 a j) = m ((c : Thread nD τ).loc main_arg1) (ix2 ⟨16 * (t.val / 4) + a, by have := tN t; omega⟩ ⟨2048 + j, by omega⟩) := by
  refine Eq.trans ?_ (v1_at m c _ _)
  unfold X0_3 Pipeline.Window.fill
  rw [dif_pos (moved0_3 t _)]
  have h := idx3 t
  blk_simp [iblk]
  refine congrArg _ (funext fun b => Fin.ext ?_)
  blk_simp []
  fin_cases b
  · simp [h.1]; omega
  · simp [h.2]

theorem x2_at (t : Fin cfg0.N) (g : Fin 16) (l : Fin 576) (i : Fin 256) :
    iblk m c 2 t (ix3 g l i) = V m c main_v7 (ix3 ⟨16 * (t.val / 4) + g, by have := tN t; omega⟩ l i) := by
  have h := idx2 t
  blk_simp [iblk]
  refine congrArg _ (funext fun b => Fin.ext ?_)
  blk_simp []
  fin_cases b
  · simp [h.1]; omega
  · simp [h.2.1]
  · simp [h.2.2]

theorem x4_at (t : Fin cfg0.N) (l : Fin 576) (i : Fin 16) :
    iblk m c 4 t (ix3 0 l i) = V m c main_v13 (ix3 ⟨t.val / 4, by have := tN t; omega⟩ l i) := by
  have h := idx4 t
  blk_simp [iblk]
  refine congrArg _ (funext fun b => Fin.ext ?_)
  blk_simp []
  fin_cases b
  · simp [h.1]
  · simp [h.2.1]
  · simp [h.2.2]

theorem x5_at (t : Fin cfg0.N) (v : Fin 3) (h : Fin 8) (n : Fin 768) (r : Fin 256) :
    iblk m c 5 t (ix4 v h n r) = V m c main_v30 (ix4 v h n r) := by
  have hemb : ∀ b, (((((cfg0.win 5).blk t).view.emb (ix4 v h n r)) b : Fin _) : ℕ) = ((ix4 v h n r : S3x8x768x256.Idx) b : ℕ) := by
    intro b
    refine Eq.trans (b := win0_5.index t b * S3x8x768x256.size b + ((ix4 v h n r : S3x8x768x256.Idx) b : ℕ)) (ValueKit.view_emb_slice_whole_unit_val ..) ?_
    rw [idx5 t b, Nat.zero_mul, Nat.zero_add]
  unfold iblk
  generalize V m c = G
  rw [View.read_apply]
  refine (cast_eq _ _).trans ?_
  exact congrArg (G main_v30) (funext fun b => Fin.ext (hemb b))

end Cert.KernelIdeal.Tile

end
-- ==== Proof.Point.lean ====
/- The output block of one grid point, at an element: neighbourhood attention of that element. -/
module

public import proofs.«01_k».proof.Proof.Blocks
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Tile

open Cert.Nat2d Cert.KernelIdeal Cert.KernelIdeal.Gen Idealize.ShloMosaic Idealize.ShloMosaic.TcCoe Idealize.SL.Sem

variable (m : (ℓ : Loc nD τ sig) → Buf (Elt Ideal) ℓ) (c : Dev nD)

/-- The bias table's variant as an index. -/
def vr (t : Fin cfg0.N) (qb : Fin 4) : Fin 3 := ⟨vrt t qb, by unfold vrt; split; · omega
                                                              · split <;> omega⟩

theorem wlo_le (t : Fin cfg0.N) (qb : Fin 4) : wlo t qb ≤ 13 := min_le_right _ _

/-- The row window of a variant of the table, and its rows, are those of the block it is taken for. -/
theorem variant_rows (t : Fin cfg0.N) (qb qr : Fin 4) (kr : Fin 12) :
    (rowOk (vrow (vr t qb) qr) (vwin (vr t qb) + kr) ↔ rowOk (16 * (t.val % 4) + 4 * qb + qr) (4 * wlo t qb + kr))
      ∧ vwin (vr t qb) + kr + 7 - vrow (vr t qb) qr = 4 * wlo t qb + kr + 7 - (16 * (t.val % 4) + 4 * qb + qr) := by
  have h4 : t.val % 4 < 4 := Nat.mod_lt _ (by omega)
  show (rowOk (vrow (vrt t qb) qr) (vwin (vrt t qb) + kr) ↔ _) ∧ vwin (vrt t qb) + kr + 7 - vrow (vrt t qb) qr = _
  unfold vrt wlo vrow vwin rowOk rs
  generalize t.val % 4 = i at *
  have hq := qb.isLt; have hr := qr.isLt
  split
  · simp only [if_true]; simp; omega
  · split
    · simp; omega
    · simp; omega

theorem window_rows (t : Fin cfg0.N) (qb qr : Fin 4) (y : ℕ) (h : rowOk (16 * (t.val % 4) + 4 * qb + qr) y) :
    4 * wlo t qb ≤ y ∧ y < 4 * wlo t qb + 12 := by
  have h4 : t.val % 4 < 4 := Nat.mod_lt _ (by omega)
  have hq := qb.isLt; have hr := qr.isLt
  unfold rowOk rs at h
  unfold wlo
  omega

/-! ## What a tile loads -/

theorem ld_q (X : Vec Ideal S1024x512 .bf16) (qb pr : Fin 4) (r : Fin 256) (l : Fin 128) :
    View.ld X (Rect.unit (s := S1024x512) (qOff qb pr) S256x128.size (qOff_inb qb pr)) (ix2 r l) = X (ix2 ⟨256 * qb + r, by omega⟩ ⟨128 * pr + l, by omega⟩) :=
  View.ld_unit_apply_of X _ _ _ _ _ fun a => by fin_cases a <;> rfl
theorem ld_m (X : Vec Ideal S16x512 .bf16) (pr : Fin 4) (r : Fin 16) (l : Fin 128) :
    View.ld X (Rect.unit (s := S16x512) (mOff pr) S16x128.size (mOff_inb pr)) (ix2 r l) = X (ix2 r ⟨128 * pr + l, by omega⟩) :=
  View.ld_unit_apply_of X _ _ _ _ _ fun a => by
    fin_cases a
    · exact (Nat.zero_add _).symm
    · rfl
theorem ld_mv (X : Vec Ideal S1x576x16 .bf16) (pr : Fin 4) (l : Fin 144) (i : Fin 16) :
    View.ld X (Rect.unit (s := S1x576x16) (mvOff pr) S1x144x16.size (mvOff_inb pr)) (ix3 0 l i) = X (ix3 0 ⟨144 * pr + l, by omega⟩ i) :=
  View.ld_unit_apply_of X _ _ _ _ _ fun a => by
    fin_cases a
    · rfl
    · rfl
    · exact (Nat.zero_add _).symm
theorem ld_k (X : Vec Ideal S4096x512 .bf16) (t : Fin cfg0.N) (qb pr : Fin 4) (n : Fin 768) (l : Fin 128) :
    View.ld X (Rect.unit (s := S4096x512) (kOff (grid0.coords t) qb pr) S768x128.size (kOff_inb _ qb pr)) (ix2 n l)
      = X (ix2 ⟨256 * wlo t qb + n, by have := wlo_le t qb; omega⟩ ⟨128 * pr + l, by omega⟩) :=
  View.ld_unit_apply_of X _ _ _ _ _ fun a => by
    refine Eq.trans ?_ (congrArg (· + ((ix2 n l : S768x128.Idx) a : ℕ)) (congrFun (kOff_eq t qb pr) a).symm)
    fin_cases a <;> rfl
theorem ld_b0 (X : Vec Ideal S3x8x768x256 .f32) (t : Fin cfg0.N) (qb pr : Fin 4) (n : Fin 768) (r : Fin 256) :
    View.ld X (Rect.unit (s := S3x8x768x256) (b0Off (grid0.coords t) qb pr) S1x1x768x256.size (b0Off_inb _ qb pr)) (ix4 0 0 n r)
      = X (ix4 (vr t qb) ⟨2 * pr, by omega⟩ n r) :=
  View.ld_unit_apply_of X _ _ _ _ _ fun a => by
    refine Eq.trans ?_ (congrArg (· + ((ix4 0 0 n r : S1x1x768x256.Idx) a : ℕ)) (congrFun (b0Off_eq t qb pr) a).symm)
    fin_cases a
    · rfl
    · rfl
    · exact (Nat.zero_add _).symm
    · exact (Nat.zero_add _).symm
theorem ld_b1 (X : Vec Ideal S3x8x768x256 .f32) (t : Fin cfg0.N) (qb pr : Fin 4) (n : Fin 768) (r : Fin 256) :
    View.ld X (Rect.unit (s := S3x8x768x256) (b1Off (grid0.coords t) qb pr) S1x1x768x256.size (b1Off_inb _ qb pr)) (ix4 0 0 n r)
      = X (ix4 (vr t qb) ⟨2 * pr + 1, by omega⟩ n r) :=
  View.ld_unit_apply_of X _ _ _ _ _ fun a => by
    refine Eq.trans ?_ (congrArg (· + ((ix4 0 0 n r : S1x1x768x256.Idx) a : ℕ)) (congrFun (b1Off_eq t qb pr) a).symm)
    fin_cases a
    · rfl
    · rfl
    · exact (Nat.zero_add _).symm
    · exact (Nat.zero_add _).symm
theorem ld_v (X : Vec Ideal S16x576x256 .bf16) (t : Fin cfg0.N) (qb : Fin 4) (ch : Fin 3) (pr : Fin 4) (l : Fin 144) (i : Fin 256) :
    View.ld X (Rect.unit (s := S16x576x256) (vOff (grid0.coords t) qb ch pr) S1x144x256.size (vOff_inb _ qb ch pr)) (ix3 0 l i)
      = X (ix3 ⟨wlo t qb + ch, by have := wlo_le t qb; omega⟩ ⟨144 * pr + l, by omega⟩ i) :=
  View.ld_unit_apply_of X _ _ _ _ _ fun a => by
    refine Eq.trans ?_ (congrArg (· + ((ix3 0 l i : S1x144x256.Idx) a : ℕ)) (congrFun (vOff_eq t qb ch pr) a).symm)
    fin_cases a
    · rfl
    · rfl
    · exact (Nat.zero_add _).symm

/-! ## The values and the ones below them, as the tile takes them -/

theorem v_at (t : Fin cfg0.N) (qb : Fin 4) (ch : Fin 3) (pr : Fin 4) (l : Fin 144) (i : Fin 256) :
    View.ld (iblk m c 2 t) (Rect.unit (s := S16x576x256) (vOff (grid0.coords t) qb ch pr) S1x144x256.size (vOff_inb _ qb ch pr)) (ix3 0 l i)
      = (if h : (l : ℕ) < 128 then m ((c : Thread nD τ).loc main_arg0) (ix2 ⟨256 * (16 * (t.val / 4) + (wlo t qb + ch)) + i, by have := tN t; have := wlo_le t qb; omega⟩ ⟨2560 + (128 * pr + l), by omega⟩) else (1 : EReal) : EReal) :=
  (ld_v _ t qb ch pr l i).trans ((x2_at m c t _ _ i).trans (v7_at m c _ pr l i))

theorem mv_at (t : Fin cfg0.N) (pr : Fin 4) (l : Fin 144) (i : Fin 16) :
    View.ld (iblk m c 4 t) (Rect.unit (s := S1x576x16) (mvOff pr) S1x144x16.size (mvOff_inb pr)) (ix3 0 l i)
      = (if h : (l : ℕ) < 128 then m ((c : Thread nD τ).loc main_arg1) (ix2 ⟨16 * (t.val / 4) + i, by have := tN t; omega⟩ ⟨2560 + (128 * pr + l), by omega⟩) else (1 : EReal) : EReal) :=
  (ld_mv _ pr l i).trans ((x4_at m c t _ i).trans (v13_at m c _ pr l i))

/-! ## The point -/

variable (h0 : ∀ x, m ((c : Thread nD τ).loc main_arg0) x = ((m ((c : Thread nD τ).loc main_arg0) x : EReal).toReal : EReal))
  (h1 : ∀ x, m ((c : Thread nD τ).loc main_arg1) x = ((m ((c : Thread nD τ).loc main_arg1) x : EReal).toReal : EReal))
  (h2 : ∀ x, m ((c : Thread nD τ).loc main_arg2) x = ((m ((c : Thread nD τ).loc main_arg2) x : EReal).toReal : EReal))

include h0 h1 h2

/-- The bias of key `n` of the window, masked. -/
theorem b_at (t : Fin cfg0.N) (qb : Fin 4) (h : Fin 8) (qr : Fin 4) (x : Fin 64) (n : Fin 768) :
    iblk m c 5 t (ix4 (vr t qb) h n ⟨64 * qr + x, by omega⟩)
      = score (rowOk (16 * (t.val % 4) + 4 * qb + qr) (4 * wlo t qb + n / 64) ∧ colOk x (n % 64))
          (rd3 (a := 8) (b := 15) (c := 31) (m ((c : Thread nD τ).loc main_arg2)) h (4 * wlo t qb + n / 64 + 7 - (16 * (t.val % 4) + 4 * qb + qr)) (n % 64 + 15 - x)) := by
  obtain ⟨e1, e2⟩ := variant_rows t qb qr ⟨n / 64, by omega⟩
  refine (x5_at m c t _ _ _ _).trans ?_
  have hn : n = ⟨64 * (n / 64) + n % 64, by omega⟩ := Fin.ext (Nat.div_add_mod _ _).symm
  refine (congrArg (fun k => V m c main_v30 (ix4 (vr t qb) h k ⟨64 * qr + x, by omega⟩)) hn).trans ?_
  refine v30_at m c h2 _ (vr t qb) h ⟨n / 64, by omega⟩ ⟨n % 64, by omega⟩ qr x ?_
  show score _ _ = score _ _
  rw [← e2]
  unfold score
  refine if_congr (and_congr_left' ?_) rfl rfl
  exact e1.symm

theorem tile_at (t : Fin cfg0.N) (qb pr : Fin 4) (hb : Fin 2) (qr : Fin 4) (x e : Fin 64) :
    tileK (X0_0 m c t) (X0_1 m c t) (iblk m c 2 t) (X0_3 m c t) (iblk m c 4 t) (iblk m c 5 t) (grid0.coords t) qb pr
        (ix2 ⟨64 * qr + x, by omega⟩ ⟨64 * hb + e, by omega⟩)
      = (natOut (m ((c : Thread nD τ).loc main_arg0)) (m ((c : Thread nD τ).loc main_arg1)) (m ((c : Thread nD τ).loc main_arg2))
          (t.val / 4) (16 * (t.val % 4) + 4 * qb + qr) x (2 * pr + hb) e : EReal) := by
  have hw := wlo_le t qb
  have hN := tN t
  unfold natOut
  rw [← window_attn (4 * wlo t qb) _ _ (by omega) (window_rows t qb qr) _ _
    (fun y z => gridScore (m ((c : Thread nD τ).loc main_arg0)) (m ((c : Thread nD τ).loc main_arg2)) (t.val / 4) (16 * (t.val % 4) + 4 * qb + qr) x (2 * pr + hb) y z)
    (fun y z => rd2 (m ((c : Thread nD τ).loc main_arg0)) (4096 * (t.val / 4) + 64 * y + z) (2560 + 64 * (2 * pr + hb) + e))]
  unfold tileK gridScore metaScore
  refine tile_real _ _ _ _ _ _ _ _ _ hb ⟨64 * qr + x, by omega⟩ e
    (fun d => rd2 (m ((c : Thread nD τ).loc main_arg0)) (4096 * (t.val / 4) + 64 * (16 * (t.val % 4) + 4 * qb + qr) + x) (1536 + 64 * (2 * pr + hb) + d))
    (fun n d => rd2 (m ((c : Thread nD τ).loc main_arg0)) (4096 * (t.val / 4) + 64 * (4 * wlo t qb + n / 64) + n % 64) (2048 + 64 * (2 * pr + hb) + d))
    (fun n => rd3 (a := 8) (b := 15) (c := 31) (m ((c : Thread nD τ).loc main_arg2)) (2 * pr + hb) (4 * wlo t qb + n / 64 + 7 - (16 * (t.val % 4) + 4 * qb + qr)) (n % 64 + 15 - x))
    (fun n => rowOk (16 * (t.val % 4) + 4 * qb + qr) (4 * wlo t qb + n / 64) ∧ colOk x (n % 64))
    (fun i d => rd2 (m ((c : Thread nD τ).loc main_arg1)) (16 * (t.val / 4) + i) (2048 + 64 * (2 * pr + hb) + d))
    (fun i => rd2 (m ((c : Thread nD τ).loc main_arg1)) (16 * (t.val / 4) + i) (2560 + 64 * (2 * pr + hb) + e))
    (fun n => rd2 (m ((c : Thread nD τ).loc main_arg0)) (4096 * (t.val / 4) + 64 * (4 * wlo t qb + n / 64) + n % 64) (2560 + 64 * (2 * pr + hb) + e))
    ?_ ?_ ?_ ?_ ?_ ?_ ?_ ?_ ?_ ?_ ?_ ?_ ?_
  · intro d
    refine (ld_q _ qb pr _ _).trans ((x0_at m c t _ _).trans (rd2_of _ h0 _ _ _ _ ?_ ?_)) <;> simp only <;> omega
  · intro n d
    refine (ld_k _ t qb pr n _).trans ((x1_at m c t _ _).trans (rd2_of _ h0 _ _ _ _ ?_ ?_)) <;> simp only <;> omega
  · rintro rfl n
    refine (ld_b0 _ t qb pr n _).trans ?_
    exact b_at m c h0 h1 h2 t qb ⟨2 * pr, by omega⟩ qr x n
  · rintro rfl n
    refine (ld_b1 _ t qb pr n _).trans ?_
    exact b_at m c h0 h1 h2 t qb ⟨2 * pr + 1, by omega⟩ qr x n
  · intro n d
    refine (ld_m _ pr n _).trans ((x3_at m c t _ _).trans (rd2_of _ h1 _ _ _ _ ?_ ?_)) <;> simp only <;> omega
  · intro i
    refine (mv_at m c t pr _ i).trans ?_
    rw [dif_pos (show 64 * (hb : ℕ) + e < 128 by omega)]
    refine rd2_of _ h1 _ _ _ _ ?_ ?_ <;> simp only <;> omega
  · intro i
    exact (mv_at m c t pr 128 i).trans (dif_neg (show ¬ ((128 : Fin 144) : ℕ) < 128 by decide))
  · intro i
    refine (v_at m c t qb 0 pr _ i).trans ?_
    rw [dif_pos (show 64 * (hb : ℕ) + e < 128 by omega)]
    refine rd2_of _ h0 _ _ _ _ ?_ ?_ <;> simp only [Fin.val_zero] <;> omega
  · intro i
    exact (v_at m c t qb 0 pr 128 i).trans (dif_neg (show ¬ ((128 : Fin 144) : ℕ) < 128 by decide))
  · intro i
    refine (v_at m c t qb 1 pr _ i).trans ?_
    rw [dif_pos (show 64 * (hb : ℕ) + e < 128 by omega)]
    refine rd2_of _ h0 _ _ _ _ ?_ ?_ <;> simp only [Fin.val_one] <;> omega
  · intro i
    exact (v_at m c t qb 1 pr 128 i).trans (dif_neg (show ¬ ((128 : Fin 144) : ℕ) < 128 by decide))
  · intro i
    refine (v_at m c t qb 2 pr _ i).trans ?_
    rw [dif_pos (show 64 * (hb : ℕ) + e < 128 by omega)]
    refine rd2_of _ h0 _ _ _ _ ?_ ?_ <;> simp only [Fin.val_two] <;> omega
  · intro i
    exact (v_at m c t qb 2 pr 128 i).trans (dif_neg (show ¬ ((128 : Fin 144) : ℕ) < 128 by decide))

/-- WHAT A POINT LEAVES: at row `256 * qb + 64 * qr + x` and column `128 * pr + 64 * hb + e` of its block. -/
theorem outs_at (t : Fin cfg0.N) (qb pr : Fin 4) (hb : Fin 2) (qr : Fin 4) (x e : Fin 64) :
    outsAt0 m c t (ix2 ⟨256 * qb + (64 * qr + x), by omega⟩ ⟨128 * pr + (64 * hb + e), by omega⟩)
      = (natOut (m ((c : Thread nD τ).loc main_arg0)) (m ((c : Thread nD τ).loc main_arg1)) (m ((c : Thread nD τ).loc main_arg2))
          (t.val / 4) (16 * (t.val % 4) + 4 * qb + qr) x (2 * pr + hb) e : EReal) := by
  rw [outs_eq]
  refine View.canon_ofFn_unit_eq_of_forall (Val := Elt Ideal) (S := S1024x512) (e := .bf16) (fun k : Fin 16 => qOff (qbOf k) (prOf k)) S256x128.size (fun k => qOff_inb (qbOf k) (prOf k)) _ _ _
    ⟨⟨15 - (4 * qb + pr), by omega⟩, fun a => ?_⟩ fun k => ?_
  · have e1 : qbOf ⟨15 - (4 * qb + pr), by omega⟩ = qb := Fin.ext (by show (15 - (15 - (4 * (qb : ℕ) + pr))) / 4 = qb; omega)
    have e2 : prOf ⟨15 - (4 * qb + pr), by omega⟩ = pr := Fin.ext (by show (15 - (15 - (4 * (qb : ℕ) + pr))) % 4 = pr; omega)
    simp only [e1, e2]
    fin_cases a
    · show 256 * (qb : ℕ) ≤ 256 * qb + (64 * qr + x) ∧ 256 * (qb : ℕ) + (64 * qr + x) < 256 * qb + 256; omega
    · show 128 * (pr : ℕ) ≤ 128 * pr + (64 * hb + e) ∧ 128 * (pr : ℕ) + (64 * hb + e) < 128 * pr + 128; omega
  · intro z hz
    have hz0 : 256 * (qb : ℕ) + (64 * qr + x) = 256 * (qbOf k : ℕ) + z 0 := hz 0
    have hz1 : 128 * (pr : ℕ) + (64 * hb + e) = 128 * (prOf k : ℕ) + z 1 := hz 1
    have b0 : (z 0 : ℕ) < 256 := (z 0).isLt
    have b1 : (z 1 : ℕ) < 128 := (z 1).isLt
    have e1 : qbOf k = qb := Fin.ext (by omega)
    have e2 : prOf k = pr := Fin.ext (by omega)
    rw [e1] at hz0 ⊢; rw [e2] at hz1 ⊢
    have hzz : z = ix2 ⟨64 * qr + x, by omega⟩ ⟨64 * hb + e, by omega⟩ := by
      funext a
      fin_cases a
      · exact Fin.ext (by show (z 0 : ℕ) = 64 * qr + x; omega)
      · exact Fin.ext (by show (z 1 : ℕ) = 64 * hb + e; omega)
    rw [hzz]
    exact tile_at m c h0 h1 h2 t qb pr hb qr x e

end Cert.KernelIdeal.Tile

end
-- ==== Proof.Array.lean ====
/- The array the kernel leaves: neighbourhood attention at every element. -/
module

public import proofs.«01_k».proof.Proof.Point
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Tile

open Cert.Nat2d Cert.KernelIdeal Cert.KernelIdeal.Gen Idealize.ShloMosaic Idealize.ShloMosaic.TcCoe Idealize.SL.Sem

variable (m : (ℓ : Loc nD τ sig) → Buf (Elt Ideal) ℓ) (c : Dev nD)

/-- Neighbourhood attention, as an array. -/
def natArr (X0 : (⟨2, ![65536, 3840]⟩ : Shape).Idx → EReal) (X1 : (⟨2, ![256, 3840]⟩ : Shape).Idx → EReal)
    (X2 : (⟨3, ![8, 15, 31]⟩ : Shape).Idx → EReal) (i : (⟨2, ![65536, 512]⟩ : Shape).Idx) : EReal :=
  (natOut X0 X1 X2 ((i 0).val / 4096) ((i 0).val % 4096 / 64) ((i 0).val % 64) ((i 1).val / 64) ((i 1).val % 64) : EReal)

theorem idx6 : ∀ t : Fin cfg0.N, win0_6.index t 0 = t.val ∧ win0_6.index t 1 = 0 := (by decide +kernel : ∀ t : Fin grid0.N, _)

variable (h0 : ∀ x, m ((c : Thread nD τ).loc main_arg0) x = ((m ((c : Thread nD τ).loc main_arg0) x : EReal).toReal : EReal))
  (h1 : ∀ x, m ((c : Thread nD τ).loc main_arg1) x = ((m ((c : Thread nD τ).loc main_arg1) x : EReal).toReal : EReal))
  (h2 : ∀ x, m ((c : Thread nD τ).loc main_arg2) x = ((m ((c : Thread nD τ).loc main_arg2) x : EReal).toReal : EReal))

include h0 h1 h2

theorem outs_nat (t : Fin cfg0.N) (a : Fin 1024) (j : Fin 512) (i : (⟨2, ![65536, 512]⟩ : Shape).Idx) (hi0 : (i 0).val = 1024 * t.val + a) (hi1 : (i 1).val = j) :
    outsAt0 m c t (ix2 a j) = natArr (m ((c : Thread nD τ).loc main_arg0)) (m ((c : Thread nD τ).loc main_arg1)) (m ((c : Thread nD τ).loc main_arg2)) i := by
  have ha : a = ⟨256 * (a / 256) + (64 * (a % 256 / 64) + a % 64), by omega⟩ := Fin.ext (by show (a : ℕ) = 256 * (a / 256) + (64 * (a % 256 / 64) + a % 64); omega)
  have hj : j = ⟨128 * (j / 128) + (64 * (j % 128 / 64) + j % 64), by omega⟩ := Fin.ext (by show (j : ℕ) = 128 * (j / 128) + (64 * (j % 128 / 64) + j % 64); omega)
  have e := outs_at m c h0 h1 h2 t ⟨a / 256, by omega⟩ ⟨j / 128, by omega⟩ ⟨j % 128 / 64, by omega⟩ ⟨a % 256 / 64, by omega⟩ ⟨a % 64, by omega⟩ ⟨j % 64, by omega⟩
  refine (congrArg₂ (fun p q => outsAt0 m c t (ix2 p q)) ha hj).trans (e.trans ?_)
  unfold natArr
  rw [hi0, hi1]
  refine congrArg _ ?_
  congr 1
  · omega
  · show 16 * (t.val % 4) + 4 * ((a : ℕ) / 256) + (a : ℕ) % 256 / 64 = (1024 * t.val + a) % 4096 / 64; omega
  · show (a : ℕ) % 64 = (1024 * t.val + a) % 64; omega
  · show 2 * ((j : ℕ) / 128) + (j : ℕ) % 128 / 64 = (j : ℕ) / 64; omega

theorem final : (dats m 0 c).arrAt 6 cfg0.N
    = natArr (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp []
  rw [after0_6]
  have h := idx6 t
  have hy : y = ix2 (y 0) (y 1) := by funext a; fin_cases a <;> rfl
  rw [hy]
  refine outs_nat m c h0 h1 h2 t (y 0) (y 1) _ ?_ ?_
  · blk_simp []; simp [h.1]; omega
  · blk_simp []; simp [h.2]

end Cert.KernelIdeal.Tile

end
-- ==== Proof.RefTerm.lean ====
/- The reference program, in named steps. -/
module

public import proofs.«01_k».proof.Proof.Gen.ReferenceIdeal.Run
public import proofs.«01_k».proof.Proof.Gather
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Val

open Cert.Nat2d Cert.ReferenceIdeal Cert.ReferenceIdeal.Gen Cert.ReferenceIdeal.Value Idealize.ShloMosaic Idealize.ShloMosaic.TcCoe Idealize.SL.Sem

/-- Which grid rows are attended from a grid row. -/
def rowMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32)))))) (broadcastInDim S64x1 ![] bcast_S_S64x1 (constantI S_ 32 8#32)))))

/-- Which grid columns are attended from a grid column. -/
def colMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32)))))

/-- The rows of the bias table. -/
def rowIdx : IVec S64x64x1 32 :=
  broadcastInDim S64x64x1 ![0, 1] bcast_S64x64_S64x64x1_0_1 (select (cmpi .slt (minsi (broadcastInDim S64x64 ![] bcast_S_S64x64 (id (constantI S_ 32 14#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 7#32))))) (broadcastInDim S64x64 ![] bcast_S_S64x64 (constantI S_ 32 0#32))) (addi (minsi (broadcastInDim S64x64 ![] bcast_S_S64x64 (id (constantI S_ 32 14#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 7#32))))) (broadcastInDim S64x64 ![] bcast_S_S64x64 (constantI S_ 32 15#32))) (minsi (broadcastInDim S64x64 ![] bcast_S_S64x64 (id (constantI S_ 32 14#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 7#32))))))

/-- The columns of the bias table. -/
def colIdx : IVec S64x64x1 32 :=
  broadcastInDim S64x64x1 ![0, 1] bcast_S64x64_S64x64x1_0_1 (select (cmpi .slt (minsi (broadcastInDim S64x64 ![] bcast_S_S64x64 (id (constantI S_ 32 30#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))) (broadcastInDim S64x64 ![] bcast_S_S64x64 (constantI S_ 32 0#32))) (addi (minsi (broadcastInDim S64x64 ![] bcast_S_S64x64 (id (constantI S_ 32 30#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))) (broadcastInDim S64x64 ![] bcast_S_S64x64 (constantI S_ 32 31#32))) (minsi (broadcastInDim S64x64 ![] bcast_S_S64x64 (id (constantI S_ 32 30#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))))

/-- The bias, read off the table. -/
def bias (X2 : FVec Ideal S8x15x31 .f32) : FVec Ideal S8x64x64x64x64 .f32 :=
  Host.gather gather_S8x64x64x31_S64x64x1_S8x64x64x64x64_012_3_n_n_3_2_864641 (Host.gather gather_S8x15x31_S64x64x1_S8x64x64x31_03_1_n_n_1_2_8131 X2 rowIdx) colIdx

/-- The masked scores of the grid. -/
def gridS (X0 : FVec Ideal S65536x3840 .f32) (X2 : FVec Ideal S8x15x31 .f32) : FVec Ideal S16x8x64x64x4096 .f32 :=
  shapeCast _ (transpose S16x8x64x64x64x64 [0, 1, 2, 4, 3, 5] (select (broadcastInDim S16x8x64x64x64x64 ![2, 3, 4, 5] bcast_S64x64x64x64_S16x8x64x64x64x64_2_3_4_5 (andi (broadcastInDim S64x64x64x64 ![0, 1, 2, 3] bcast_S64x64x1x1_S64x64x64x64_0_1_2_3 (broadcastInDim S64x64x1x1 ![0, 1] bcast_S64x64_S64x64x1x1_0_1 rowMask)) (broadcastInDim S64x64x64x64 ![0, 1, 2, 3] bcast_S1x1x64x64_S64x64x64x64_0_1_2_3 (broadcastInDim S1x1x64x64 ![2, 3] bcast_S64x64_S1x1x64x64_2_3 colMask)))) (addf (mulf (transpose S16x8x64x64x64x64 [0, 1, 4, 2, 5, 3] (Host.dotGeneral dot_S16x64x64x8x64_S16x64x64x8x64_S16x8x64x64x64x64_4_4_12_12_03_03 none (shapeCast _ (extractStridedSlice S65536x512 ![0, 2048] X0 slices_S65536x3840_S65536x512_0_2048) shapeCasts_S65536x512_S16x64x64x8x64) (shapeCast _ (extractStridedSlice S65536x512 ![0, 1536] X0 slices_S65536x3840_S65536x512_0_1536) shapeCasts_S65536x512_S16x64x64x8x64)) transposes_S16x8x64x64x64x64_S16x8x64x64x64x64_0_1_4_2_5_3) (broadcastInDim S16x8x64x64x64x64 ![] bcast_S_S16x8x64x64x64x64 (constant S_ .f32 0x3E000000#32))) (broadcastInDim S16x8x64x64x64x64 ![0, 1, 2, 3, 4, 5] bcast_S1x8x64x64x64x64_S16x8x64x64x64x64_0_1_2_3_4_5 (broadcastInDim S1x8x64x64x64x64 ![1, 2, 3, 4, 5] bcast_S8x64x64x64x64_S1x8x64x64x64x64_1_2_3_4_5 (bias X2)))) (broadcastInDim S16x8x64x64x64x64 ![] bcast_S_S16x8x64x64x64x64 (id (constant S_ .f32 0xFF800000#32)))) transposes_S16x8x64x64x64x64_S16x8x64x64x64x64_0_1_2_4_3_5) shapeCasts_S16x8x64x64x64x64_S16x8x64x64x4096

/-- The scores of the meta tokens. -/
def metaS (X0 : FVec Ideal S65536x3840 .f32) (X1 : FVec Ideal S256x3840 .f32) : FVec Ideal S16x8x64x64x16 .f32 :=
  mulf (Host.dotGeneral dot_S16x64x64x8x64_S16x16x8x64_S16x8x64x64x16_4_3_12_1_03_02 none (shapeCast _ (extractStridedSlice S65536x512 ![0, 1536] X0 slices_S65536x3840_S65536x512_0_1536) shapeCasts_S65536x512_S16x64x64x8x64) (shapeCast _ (extractStridedSlice S256x512 ![0, 2048] X1 slices_S256x3840_S256x512_0_2048) shapeCasts_S256x512_S16x16x8x64)) (broadcastInDim S16x8x64x64x16 ![] bcast_S_S16x8x64x64x16 (constant S_ .f32 0x3E000000#32))

/-- All scores of a query. -/
def allS (SM : FVec Ideal S16x8x64x64x16 .f32) (SG : FVec Ideal S16x8x64x64x4096 .f32) : FVec Ideal S16x8x64x64x4112 .f32 :=
  concatenate S16x8x64x64x4112 4 [⟨S16x8x64x64x16, SM⟩, ⟨S16x8x64x64x4096, SG⟩] concatenates_S16x8x64x64x16_S16x8x64x64x4096_S16x8x64x64x4112_d4

/-- The largest score of a query. -/
def rowMax (C : FVec Ideal S16x8x64x64x4112 .f32) : FVec Ideal S16x8x64x64 .f32 :=
  maximumf (broadcastInDim S16x8x64x64 ![] bcast_S_S16x8x64x64 (constant S_ .f32 0xFF800000#32)) (Host.reduce FloatOps.maximumf C (constant S_ .f32 0xFF800000#32) reducesTo_S16x8x64x64x4112_S16x8x64x64_d4 h_S_)

/-- The weights before normalisation. -/
def rowExp (C : FVec Ideal S16x8x64x64x4112 .f32) : FVec Ideal S16x8x64x64x4112 .f32 :=
  Host.exp (subf C (broadcastInDim S16x8x64x64x4112 ![0, 1, 2, 3, 4] bcast_S16x8x64x64x1_S16x8x64x64x4112_0_1_2_3_4 (broadcastInDim S16x8x64x64x1 ![0, 1, 2, 3] bcast_S16x8x64x64_S16x8x64x64x1_0_1_2_3 (rowMax C))))

/-- The weights. -/
def norm (W : FVec Ideal S16x8x64x64x4112 .f32) : FVec Ideal S16x8x64x64x4112 .f32 :=
  Host.divf W (broadcastInDim S16x8x64x64x4112 ![0, 1, 2, 3, 4] bcast_S16x8x64x64x1_S16x8x64x64x4112_0_1_2_3_4 (broadcastInDim S16x8x64x64x1 ![0, 1, 2, 3] bcast_S16x8x64x64_S16x8x64x64x1_0_1_2_3 (Host.reduceAdd W (constant S_ .f32 0x00000000#32) reducesTo_S16x8x64x64x4112_S16x8x64x64_d4 h_S_)))

/-- The result from the weights. -/
def mix (X0 : FVec Ideal S65536x3840 .f32) (X1 : FVec Ideal S256x3840 .f32) (P : FVec Ideal S16x8x64x64x4112 .f32) : FVec Ideal S65536x512 .bf16 :=
  truncf .bf16 (shapeCast _ (addf (transpose S16x64x64x8x64 [0, 3, 4, 1, 2] (Host.dotGeneral dot_S16x16x8x64_S16x8x64x64x16_S16x8x64x64x64_1_4_3_23_02_01 none (shapeCast _ (extractStridedSlice S256x512 ![0, 2560] X1 slices_S256x3840_S256x512_0_2560) shapeCasts_S256x512_S16x16x8x64) (extractStridedSlice S16x8x64x64x16 ![0, 0, 0, 0, 0] P slices_S16x8x64x64x4112_S16x8x64x64x16_0_0_0_0_0)) transposes_S16x8x64x64x64_S16x64x64x8x64_0_3_4_1_2) (transpose S16x64x64x8x64 [0, 3, 4, 1, 2] (Host.dotGeneral dot_S16x64x64x8x64_S16x8x64x64x64x64_S16x8x64x64x64_12_45_4_23_03_01 none (shapeCast _ (extractStridedSlice S65536x512 ![0, 2560] X0 slices_S65536x3840_S65536x512_0_2560) shapeCasts_S65536x512_S16x64x64x8x64) (shapeCast _ (extractStridedSlice S16x8x64x64x4096 ![0, 0, 0, 0, 16] P slices_S16x8x64x64x4112_S16x8x64x64x4096_0_0_0_0_16) shapeCasts_S16x8x64x64x4096_S16x8x64x64x64x64)) transposes_S16x8x64x64x64_S16x64x64x8x64_0_3_4_1_2)) shapeCasts_S16x64x64x8x64_S65536x512) bitsLt_bf16_f32

set_option maxHeartbeats 4000000 in
theorem res_eq (m : (ℓ : Loc nD τ sig) → Buf (Elt Ideal) ℓ) (c : Dev nD) :
    res_main_v112 m c = mix (m ((c : Thread nD τ).loc main_arg0)) (m ((c : Thread nD τ).loc main_arg1)) (norm (rowExp (allS
      (metaS (m ((c : Thread nD τ).loc main_arg0)) (m ((c : Thread nD τ).loc main_arg1))) (gridS (m ((c : Thread nD τ).loc main_arg0)) (m ((c : Thread nD τ).loc main_arg2)))))) := by
  unfold res_main_v112 mix norm rowExp rowMax allS metaS gridS bias rowIdx colIdx rowMask colMask
  rfl

end Cert.ReferenceIdeal.Val

end
-- ==== Proof.RefScore.lean ====
/- The scores of the reference, at an element. -/
module

public import proofs.«01_k».proof.Proof.RefTerm
public import proofs.«01_k».proof.Proof.Gather
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Val

open Cert.Nat2d Cert.ReferenceIdeal Cert.ReferenceIdeal.Gen Cert.ReferenceIdeal.Value Idealize.ShloMosaic Idealize.ShloMosaic.TcCoe Idealize.SL.Sem

open Idealize.ShloMosaic (ix2 ix3 ix4 ix5)

/-! ## The masks and the rows and columns of the table -/

theorem row_word : ∀ r y : Fin 64, IntOp.andi
      (IntOp.cmpi CmpIPredicate.sge (BitVec.ofNat 32 ↑y) (IntOp.minsi 56#32 (IntOp.maxsi 0#32 (IntOp.subi (BitVec.ofNat 32 ↑r) 4#32))))
      (IntOp.cmpi CmpIPredicate.slt (BitVec.ofNat 32 ↑y) (IntOp.addi (IntOp.minsi 56#32 (IntOp.maxsi 0#32 (IntOp.subi (BitVec.ofNat 32 ↑r) 4#32))) 8#32))
    = if rowOk r y then 1#1 else 0#1 := by
  decide +kernel

theorem col_word : ∀ x z : Fin 64, IntOp.andi
      (IntOp.cmpi CmpIPredicate.sge (BitVec.ofNat 32 ↑z) (IntOp.minsi 48#32 (IntOp.maxsi 0#32 (IntOp.subi (BitVec.ofNat 32 ↑x) 8#32))))
      (IntOp.cmpi CmpIPredicate.slt (BitVec.ofNat 32 ↑z) (IntOp.addi (IntOp.minsi 48#32 (IntOp.maxsi 0#32 (IntOp.subi (BitVec.ofNat 32 ↑x) 8#32))) 16#32))
    = if colOk x z then 1#1 else 0#1 := by
  decide +kernel

theorem rowIdx_word : ∀ r y : Fin 64, Scalar.select
      (IntOp.cmpi CmpIPredicate.slt (IntOp.minsi 14#32 (IntOp.maxsi 0#32 (IntOp.addi (IntOp.subi (BitVec.ofNat 32 ↑y) (BitVec.ofNat 32 ↑r)) 7#32))) 0#32)
      (IntOp.addi (IntOp.minsi 14#32 (IntOp.maxsi 0#32 (IntOp.addi (IntOp.subi (BitVec.ofNat 32 ↑y) (BitVec.ofNat 32 ↑r)) 7#32))) 15#32)
      (IntOp.minsi 14#32 (IntOp.maxsi 0#32 (IntOp.addi (IntOp.subi (BitVec.ofNat 32 ↑y) (BitVec.ofNat 32 ↑r)) 7#32)))
    = BitVec.ofNat 32 (min (y + 7 - r) 14) := by
  decide +kernel

theorem colIdx_word : ∀ x z : Fin 64, Scalar.select
      (IntOp.cmpi CmpIPredicate.slt (IntOp.minsi 30#32 (IntOp.maxsi 0#32 (IntOp.addi (IntOp.subi (BitVec.ofNat 32 ↑z) (BitVec.ofNat 32 ↑x)) 15#32))) 0#32)
      (IntOp.addi (IntOp.minsi 30#32 (IntOp.maxsi 0#32 (IntOp.addi (IntOp.subi (BitVec.ofNat 32 ↑z) (BitVec.ofNat 32 ↑x)) 15#32))) 31#32)
      (IntOp.minsi 30#32 (IntOp.maxsi 0#32 (IntOp.addi (IntOp.subi (BitVec.ofNat 32 ↑z) (BitVec.ofNat 32 ↑x)) 15#32)))
    = BitVec.ofNat 32 (min (z + 15 - x) 30) := by
  decide +kernel

theorem rowMask_at (r y : Fin 64) : rowMask (ix2 r y) = if rowOk r y then 1#1 else 0#1 := by
  suffices h : ∀ R, R = (if rowOk r y then 1#1 else 0#1) → rowMask (ix2 r y) = R from h _ rfl
  intro R hR
  pointwise [rowMask]
  exact (row_word r y).trans hR.symm

theorem colMask_at (x z : Fin 64) : colMask (ix2 x z) = if colOk x z then 1#1 else 0#1 := by
  suffices h : ∀ R, R = (if colOk x z then 1#1 else 0#1) → colMask (ix2 x z) = R from h _ rfl
  intro R hR
  pointwise [colMask]
  exact (col_word x z).trans hR.symm

theorem rowIdx_at (r y : Fin 64) : rowIdx (ix3 r y 0) = BitVec.ofNat 32 (min (y + 7 - r) 14) := by
  suffices h : ∀ R, R = BitVec.ofNat 32 (min (y + 7 - r) 14) → rowIdx (ix3 r y 0) = R from h _ rfl
  intro R hR
  pointwise [rowIdx]
  exact (rowIdx_word r y).trans hR.symm

theorem colIdx_at (x z : Fin 64) : colIdx (ix3 x z 0) = BitVec.ofNat 32 (min (z + 15 - x) 30) := by
  suffices h : ∀ R, R = BitVec.ofNat 32 (min (z + 15 - x) 30) → colIdx (ix3 x z 0) = R from h _ rfl
  intro R hR
  pointwise [colIdx]
  exact (colIdx_word x z).trans hR.symm

/-! ## The two gathers -/

theorem gather_row (X : FVec Ideal S8x15x31 .f32) (I : IVec S64x64x1 32) (h : Fin 8) (r y : Fin 64) (j : Fin 31) :
    Host.gather gather_S8x15x31_S64x64x1_S8x64x64x31_03_1_n_n_1_2_8131 X I (ix4 h r y j)
      = X (ix3 h ⟨min (I (ix3 r y 0)).toInt.toNat 14, by omega⟩ j) := by
  unfold Host.gather
  congr 1
  funext a
  refine Fin.ext ?_
  show GatherDims.start _ _ _ a + GatherDims.batchCoord _ _ a + GatherDims.offCoord _ _ a = _
  rw [GatherDims.batchCoord_eq_zero _ _ _ (show a ∉ [] from List.not_mem_nil)]
  fin_cases a
  · rw [start_of_not_mem _ _ _ _ (by decide +kernel), offCoord_of _ _ _ 0 (by decide +kernel) (by decide +kernel)]
    simp
  · rw [start_of_mem _ _ _ _ (by decide +kernel) (ix3 r y 0) (fun b => by
      fin_cases b
      · refine siIdx_of gather_S8x15x31_S64x64x1_S8x64x64x31_03_1_n_n_1_2_8131 _ _ (0 : Fin 3) (1 : Fin 4) ?_ ?_ <;> decide +kernel
      · refine siIdx_of gather_S8x15x31_S64x64x1_S8x64x64x31_03_1_n_n_1_2_8131 _ _ (1 : Fin 3) (2 : Fin 4) ?_ ?_ <;> decide +kernel
      · exact siIdx_vec _ _ _ _ rfl), GatherDims.offCoord_eq_zero _ _ _ (by decide +kernel)]
    rfl
  · rw [start_of_not_mem _ _ _ _ (by decide +kernel), offCoord_of _ _ _ 3 (by decide +kernel) (by decide +kernel)]
    simp

theorem gather_col (X : FVec Ideal S8x64x64x31 .f32) (I : IVec S64x64x1 32) (h : Fin 8) (r y x z : Fin 64) :
    Host.gather gather_S8x64x64x31_S64x64x1_S8x64x64x64x64_012_3_n_n_3_2_864641 X I (ix5 h r y x z)
      = X (ix4 h r y ⟨min (I (ix3 x z 0)).toInt.toNat 30, by omega⟩) := by
  unfold Host.gather
  congr 1
  funext a
  refine Fin.ext ?_
  show GatherDims.start _ _ _ a + GatherDims.batchCoord _ _ a + GatherDims.offCoord _ _ a = _
  rw [GatherDims.batchCoord_eq_zero _ _ _ (show a ∉ [] from List.not_mem_nil)]
  fin_cases a
  · rw [start_of_not_mem _ _ _ _ (by decide +kernel), offCoord_of _ _ _ 0 (by decide +kernel) (by decide +kernel)]
    simp
  · rw [start_of_not_mem _ _ _ _ (by decide +kernel), offCoord_of _ _ _ 1 (by decide +kernel) (by decide +kernel)]
    simp
  · rw [start_of_not_mem _ _ _ _ (by decide +kernel), offCoord_of _ _ _ 2 (by decide +kernel) (by decide +kernel)]
    simp
  · rw [start_of_mem _ _ _ _ (by decide +kernel) (ix3 x z 0) (fun b => by
      fin_cases b
      · refine siIdx_of gather_S8x64x64x31_S64x64x1_S8x64x64x64x64_012_3_n_n_3_2_864641 _ _ (0 : Fin 3) (3 : Fin 5) ?_ ?_ <;> decide +kernel
      · refine siIdx_of gather_S8x64x64x31_S64x64x1_S8x64x64x64x64_012_3_n_n_3_2_864641 _ _ (1 : Fin 3) (4 : Fin 5) ?_ ?_ <;> decide +kernel
      · exact siIdx_vec _ _ _ _ rfl), GatherDims.offCoord_eq_zero _ _ _ (by decide +kernel)]
    rfl

theorem idx14 : ∀ n : Fin 15, min (BitVec.ofNat 32 n).toInt.toNat 14 = n := by decide +kernel
theorem idx30 : ∀ n : Fin 31, min (BitVec.ofNat 32 n).toInt.toNat 30 = n := by decide +kernel

theorem bias_at (X2 : FVec Ideal S8x15x31 .f32) (h : Fin 8) (r y x z : Fin 64) :
    bias X2 (ix5 h r y x z) = X2 (ix3 h ⟨min (y + 7 - r) 14, by omega⟩ ⟨min (z + 15 - x) 30, by omega⟩) := by
  unfold bias
  rw [gather_col, gather_row]
  refine congrArg X2 ?_
  have e1 : min (rowIdx (ix3 r y 0)).toInt.toNat 14 = min ((y : ℕ) + 7 - r) 14 := by
    rw [rowIdx_at]; exact idx14 ⟨min (y + 7 - r) 14, by omega⟩
  have e2 : min (colIdx (ix3 x z 0)).toInt.toNat 30 = min ((z : ℕ) + 15 - x) 30 := by
    rw [colIdx_at]; exact idx30 ⟨min (z + 15 - x) 30, by omega⟩
  exact congrArg₂ (fun p q => ix3 h p q) (Fin.ext e1) (Fin.ext e2)

/-! ## The scores -/

variable (X0 : FVec Ideal S65536x3840 .f32) (X1 : FVec Ideal S256x3840 .f32) (X2 : FVec Ideal S8x15x31 .f32)
  (h0 : ∀ x, X0 x = ((X0 x : EReal).toReal : EReal)) (h1 : ∀ x, X1 x = ((X1 x : EReal).toReal : EReal)) (h2 : ∀ x, X2 x = ((X2 x : EReal).toReal : EReal))

theorem eighth : Ideal.ofBits FTy.f32 1040187392#32 = ((1 / 8 : ℝ) : EReal) := by
  simp [Ideal.ofBits, Ideal.ieee]
  rw [← EReal.coe_mul]
  norm_num

theorem ninf : (id (constant (F := Ideal) S_ FTy.f32 4286578688#32) ix0 : EReal) = ⊥ := by
  show Ideal.ofBits .f32 0xFF800000#32 = ⊥
  simp [Ideal.ofBits, Ideal.ieee]

include h0 h1 in
theorem metaS_at (b : Fin 16) (h : Fin 8) (r x : Fin 64) (i : Fin 16) : metaS X0 X1 (ix5 b h r x i) = (metaScore X0 X1 b r x h i : EReal) := by
  suffices hh : ∀ R : EReal, R = metaScore X0 X1 b r x h i → metaS X0 X1 (ix5 b h r x i) = R from hh _ rfl
  intro R hR
  pointwise [metaS]
  rw [hR, eighth, metaScore, EReal.coe_mul, coe_sum]
  refine congrArg (· * _) (Finset.sum_congr rfl fun d _ => ?_)
  rw [EReal.coe_mul]
  refine congrArg₂ (· * ·) (rd2_of X0 h0 _ _ _ _ ?_ ?_) (rd2_of X1 h1 _ _ _ _ ?_ ?_) <;> simp only <;> omega

theorem sel_and (p q : Prop) [Decidable p] [Decidable q] (u v : EReal) :
    Scalar.select (IntOp.andi (if p then 1#1 else 0#1) (if q then 1#1 else 0#1)) u v = if p ∧ q then u else v := by
  by_cases hp : p <;> by_cases hq : q <;> simp only [hp, hq, if_true, if_false, and_true, and_false, and_self] <;> rfl

include h0 h2 in
theorem gridS_at (b : Fin 16) (h : Fin 8) (r x : Fin 64) (y z : Fin 64) :
    gridS X0 X2 (ix5 b h r x ⟨64 * y + z, by omega⟩) = score (rowOk r y ∧ colOk x z) (gridScore X0 X2 b r x h y z) := by
  suffices hh : ∀ R : EReal, R = score (rowOk r y ∧ colOk x z) (gridScore X0 X2 b r x h y z) → gridS X0 X2 (ix5 b h r x ⟨64 * y + z, by omega⟩) = R from hh _ rfl
  intro R hR
  generalize hB : bias X2 = B
  pointwise [gridS, hB]
  rw [rowMask_at, colMask_at, sel_and, ninf, hR, ← hB, bias_at]
  unfold score
  by_cases hok : rowOk r y ∧ colOk x z
  · rw [if_pos hok, if_pos hok, eighth, gridScore, EReal.coe_add, EReal.coe_mul, coe_sum]
    refine congrArg₂ (· + ·) (congrArg (· * _) (Finset.sum_congr rfl fun d _ => ?_)) ?_
    · rw [EReal.coe_mul, mul_comm]
      refine congrArg₂ (· * ·) (rd2_of X0 h0 _ _ _ _ ?_ ?_) (rd2_of X0 h0 _ _ _ _ ?_ ?_) <;> simp only <;> omega
    · have hr := hok.1; have hc := hok.2
      unfold rowOk rs at hr; unfold colOk cs at hc
      have e1 : min ((y : ℕ) + 7 - r) 14 = y + 7 - r := by omega
      have e2 : min ((z : ℕ) + 15 - x) 30 = z + 15 - x := by omega
      refine (congrArg₂ (fun p q => X2 (ix3 h p q)) (Fin.ext e1 : _ = (⟨y + 7 - r, by omega⟩ : Fin 15)) (Fin.ext e2 : _ = (⟨z + 15 - x, by omega⟩ : Fin 31))).trans ?_
      exact rd3_eq X2 h2 h (y + 7 - r) (z + 15 - x) h.isLt _ _
  · rw [if_neg hok, if_neg hok]

end Cert.ReferenceIdeal.Val

end
-- ==== Proof.RefVal.lean ====
/- The weights and the result of the reference, at an element. -/
module

public import proofs.«01_k».proof.Proof.RefScore
public import proofs.«01_k».proof.Proof.Gather
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Val

open Cert.Nat2d Cert.ReferenceIdeal Cert.ReferenceIdeal.Gen Cert.ReferenceIdeal.Value Idealize.ShloMosaic Idealize.ShloMosaic.TcCoe Idealize.SL.Sem

open Idealize.ShloMosaic (ix2 ix3 ix4 ix5)

theorem allS_lo (SM : FVec Ideal S16x8x64x64x16 .f32) (SG : FVec Ideal S16x8x64x64x4096 .f32) (b : Fin 16) (h : Fin 8) (r x : Fin 64) (i : Fin 16) :
    allS SM SG (ix5 b h r x ⟨i, by omega⟩) = SM (ix5 b h r x i) := by
  pointwise [allS]

theorem allS_hi (SM : FVec Ideal S16x8x64x64x16 .f32) (SG : FVec Ideal S16x8x64x64x4096 .f32) (b : Fin 16) (h : Fin 8) (r x : Fin 64) (k : Fin 4096) :
    allS SM SG (ix5 b h r x ⟨16 + k, by omega⟩) = SG (ix5 b h r x k) := by
  pointwise [allS]

theorem rowExp_at (C : FVec Ideal S16x8x64x64x4112 .f32) (b : Fin 16) (h : Fin 8) (r x : Fin 64) (k : Fin 4112) :
    rowExp C (ix5 b h r x k) = Ideal.exp (C (ix5 b h r x k) - rowMax C (ix4 b h r x)) := by
  suffices hh : ∀ R : EReal, Ideal.exp (C (ix5 b h r x k) - rowMax C (ix4 b h r x)) = R → rowExp C (ix5 b h r x k) = R from hh _ rfl
  intro R hR
  pointwise [rowExp]
  exact hR

theorem norm_at (W : FVec Ideal S16x8x64x64x4112 .f32) (b : Fin 16) (h : Fin 8) (r x : Fin 64) (k : Fin 4112) :
    norm W (ix5 b h r x k) = Ideal.div (W (ix5 b h r x k)) (∑ n, W (ix5 b h r x n)) := by
  suffices hh : ∀ R : EReal, Ideal.div (W (ix5 b h r x k)) (∑ n, W (ix5 b h r x n)) = R → norm W (ix5 b h r x k) = R from hh _ rfl
  intro R hR
  pointwise [norm]
  exact hR

theorem mix_at (X0 : FVec Ideal S65536x3840 .f32) (X1 : FVec Ideal S256x3840 .f32) (P : FVec Ideal S16x8x64x64x4112 .f32) (b : Fin 16) (h : Fin 8) (r x : Fin 64) (e : Fin 64) :
    mix X0 X1 P (ix2 ⟨4096 * b + (64 * r + x), by omega⟩ ⟨64 * h + e, by omega⟩)
      = (∑ i : Fin 16, X1 (ix2 ⟨b * 16 + i, by omega⟩ ⟨2560 + (h * 64 + e), by omega⟩) * P (ix5 b h r x ⟨i, by omega⟩))
        + ∑ y : Fin 64, ∑ z : Fin 64, X0 (ix2 ⟨b * 4096 + y * 64 + z, by omega⟩ ⟨2560 + (h * 64 + e), by omega⟩) * P (ix5 b h r x ⟨16 + (y * 64 + z), by omega⟩) := by
  generalize hR : (∑ i : Fin 16, X1 (ix2 ⟨b * 16 + i, by omega⟩ ⟨2560 + (h * 64 + e), by omega⟩) * P (ix5 b h r x ⟨i, by omega⟩))
        + ∑ y : Fin 64, ∑ z : Fin 64, X0 (ix2 ⟨b * 4096 + y * 64 + z, by omega⟩ ⟨2560 + (h * 64 + e), by omega⟩) * P (ix5 b h r x ⟨16 + (y * 64 + z), by omega⟩) = R
  pointwise [mix]
  exact hR

/-- A maximum over axes, and with `⊥`, is real for numbers below `⊤` of which one that it ranges over is real. -/
theorem max_real {s t : Shape} {axes : List (Fin s.rank)} (C : s.Idx → EReal) (ini : S_.Idx → EReal) (B : t.Idx → EReal) (h : s.ReducesTo axes t)
    (hu : 0 < S_.numel) (j : t.Idx) (hB : B j = ⊥) (hi : ini (Shape.Idx.first hu) = ⊥) (hC : ∀ i, C i ≠ ⊤) (i : s.Idx) (hj : h.drop i = j) (hk : C i ≠ ⊥) :
    ∃ M : ℝ, max (B j) (Host.reduce (max : EReal → EReal → EReal) C ini h hu j) = (M : EReal) := by
  rw [Host.reduce_eq_fold, hB, hi]
  refine real_of_ne ?_ ?_
  · exact ne_of_lt (max_lt bot_lt_top (lt_top_iff_ne_top.2 (fold_max_ne_top _ _ hC)))
  · refine ne_of_gt (lt_of_lt_of_le (bot_lt_iff_ne_bot.2 hk) (le_max_of_le_right (le_fold_max _ _ _ ?_)))
    rw [Finset.mem_filter]
    exact ⟨Finset.mem_univ _, hj⟩

theorem max_real' {s t : Shape} {axes : List (Fin s.rank)} (C : FVec Ideal s .f32) (ini : FVec Ideal S_ .f32) (B : FVec Ideal t .f32) (h : s.ReducesTo axes t)
    (hu : 0 < S_.numel) (j : t.Idx) (hB : B j = (⊥ : EReal)) (hi : ini (Shape.Idx.first hu) = (⊥ : EReal)) (hC : ∀ i, C i ≠ (⊤ : EReal)) (i : s.Idx) (hj : h.drop i = j)
    (hk : C i ≠ (⊥ : EReal)) :
    ∃ M : ℝ, maximumf B (Host.reduce FloatOps.maximumf C ini h hu) j = (M : EReal) :=
  max_real C ini B h hu j hB hi hC i hj hk

/-- The largest score of a query is real, for scores below `⊤` of which one is real. -/
theorem rowMax_real (C : FVec Ideal S16x8x64x64x4112 .f32) (hC : ∀ i, C i ≠ (⊤ : EReal)) (b : Fin 16) (h : Fin 8) (r x : Fin 64) (k : Fin 4112)
    (hk : C (ix5 b h r x k) ≠ (⊥ : EReal)) : ∃ M : ℝ, rowMax C (ix4 b h r x) = (M : EReal) := by
  unfold rowMax
  refine max_real' C _ _ _ _ _ ?_ ?_ hC (ix5 b h r x k) ?_ hk
  · exact ninf
  · exact ninf
  · funext a
    fin_cases a <;> rfl

/-- The weighted mean by normalised weights is attention, the weights being the exponentials up to one positive factor. -/
theorem soft_real (sm vm : Fin 16 → ℝ) (ok : Fin 64 × Fin 64 → Prop) [DecidablePred ok] (s v : Fin 64 × Fin 64 → ℝ) (q : ℝ) (hq : 0 < q)
    (W : Fin 4112 → EReal) (VM : Fin 16 → EReal) (V : Fin 64 → Fin 64 → EReal)
    (hWm : ∀ i : Fin 16, W ⟨i, by omega⟩ = ((Real.exp (sm i) * q : ℝ) : EReal))
    (hWg : ∀ y z : Fin 64, W ⟨16 + (y * 64 + z), by omega⟩ = ((wt (ok (y, z)) (s (y, z)) * q : ℝ) : EReal))
    (hVM : ∀ i, VM i = (vm i : EReal)) (hV : ∀ y z, V y z = (v (y, z) : EReal)) :
    (∑ i : Fin 16, VM i * Ideal.div (W ⟨i, by omega⟩) (∑ n, W n)) + ∑ y : Fin 64, ∑ z : Fin 64, V y z * Ideal.div (W ⟨16 + (y * 64 + z), by omega⟩) (∑ n, W n)
      = (attn sm vm ok s v : EReal) := by
  have hD : ∑ n, W n = ((((∑ i, Real.exp (sm i)) + ∑ k, wt (ok k) (s k)) * q : ℝ) : EReal) := by
    have h1 : ∑ n, W n = (∑ i : Fin 16, W ⟨i, by omega⟩) + ∑ k : Fin 4096, W ⟨16 + k, by omega⟩ := Fin.sum_univ_add (a := 16) (b := 4096) W
    have h2 : ∑ k : Fin 4096, W ⟨16 + k, by omega⟩ = ∑ y : Fin 64, ∑ z : Fin 64, W ⟨16 + (y * 64 + z), by omega⟩ := by
      rw [← (finProdFinEquiv (m := 64) (n := 64)).sum_comp (fun k : Fin 4096 => W ⟨16 + k, by omega⟩), Fintype.sum_prod_type]
      refine Finset.sum_congr rfl fun y _ => Finset.sum_congr rfl fun z _ => congrArg W (Fin.ext ?_)
      show 16 + ((z : ℕ) + 64 * y) = 16 + (y * 64 + z); omega
    rw [h1, h2, Fintype.sum_prod_type]
    simp only [hWm, hWg, ← coe_sum]
    rw [← EReal.coe_add]
    congr 1
    simp only [← Finset.sum_mul]
    ring
  have hp := attn_den_pos sm ok s
  have hne : ((∑ i, Real.exp (sm i)) + ∑ k, wt (ok k) (s k)) * q ≠ 0 := (mul_pos hp hq).ne'
  rw [hD]
  simp only [hWm, hWg, hVM, hV, div_coe_coe _ _ hne, ← EReal.coe_mul, ← coe_sum]
  rw [← EReal.coe_add]
  congr 1
  unfold attn
  rw [Fintype.sum_prod_type (f := fun k : Fin 64 × Fin 64 => wt (ok k) (s k) * v k)]
  simp only [mul_div_mul_right _ _ hq.ne']
  rw [add_div, Finset.sum_div, Finset.sum_div]
  refine congrArg₂ (· + ·) (Finset.sum_congr rfl fun i _ => by ring) (Finset.sum_congr rfl fun y _ => ?_)
  rw [Finset.sum_div]
  exact Finset.sum_congr rfl fun z _ => by ring

variable (X0 : FVec Ideal S65536x3840 .f32) (X1 : FVec Ideal S256x3840 .f32) (X2 : FVec Ideal S8x15x31 .f32)
  (h0 : ∀ x, X0 x = ((X0 x : EReal).toReal : EReal)) (h1 : ∀ x, X1 x = ((X1 x : EReal).toReal : EReal)) (h2 : ∀ x, X2 x = ((X2 x : EReal).toReal : EReal))
include h0 h1 h2

theorem allS_meta (b : Fin 16) (h : Fin 8) (r x : Fin 64) (i : Fin 16) :
    allS (metaS X0 X1) (gridS X0 X2) (ix5 b h r x ⟨i, by omega⟩) = (metaScore X0 X1 b r x h i : EReal) :=
  (allS_lo _ _ b h r x i).trans (metaS_at X0 X1 h0 h1 b h r x i)

theorem allS_grid (b : Fin 16) (h : Fin 8) (r x y z : Fin 64) :
    allS (metaS X0 X1) (gridS X0 X2) (ix5 b h r x ⟨16 + (y * 64 + z), by omega⟩) = score (rowOk r y ∧ colOk x z) (gridScore X0 X2 b r x h y z) := by
  refine (congrArg (fun k => allS (metaS X0 X1) (gridS X0 X2) (ix5 b h r x k)) (Fin.ext ?_ : _ = (⟨16 + (64 * y + z), by omega⟩ : Fin 4112))).trans
    ((allS_hi _ _ b h r x ⟨64 * y + z, by omega⟩).trans (gridS_at X0 X2 h0 h2 b h r x y z))
  show 16 + ((y : ℕ) * 64 + z) = 16 + (64 * y + z); omega

theorem allS_ne_top (i : S16x8x64x64x4112.Idx) : allS (metaS X0 X1) (gridS X0 X2) i ≠ (⊤ : EReal) := by
  obtain ⟨b, h, r, x, k, rfl⟩ : ∃ b h r x k, i = ix5 b h r x k := ⟨i 0, i 1, i 2, i 3, i 4, by funext a; fin_cases a <;> rfl⟩
  by_cases hk : (k : ℕ) < 16
  · have := allS_meta X0 X1 X2 h0 h1 h2 b h r x ⟨k, hk⟩
    exact fun e => EReal.coe_ne_top _ (this.symm.trans e)
  · have e' : k = ⟨16 + ((k - 16) / 64 * 64 + (k - 16) % 64), by omega⟩ := Fin.ext (by show (k : ℕ) = 16 + ((k - 16) / 64 * 64 + (k - 16) % 64); omega)
    have := allS_grid X0 X1 X2 h0 h1 h2 b h r x ⟨(k - 16) / 64, by omega⟩ ⟨(k - 16) % 64, by omega⟩
    rw [e']
    exact fun e => score_ne_top _ _ (this.symm.trans e)

/-- THE REFERENCE: neighbourhood attention. -/
theorem ref_at (b : Fin 16) (h : Fin 8) (r x e : Fin 64) :
    mix X0 X1 (norm (rowExp (allS (metaS X0 X1) (gridS X0 X2)))) (ix2 ⟨4096 * b + (64 * r + x), by omega⟩ ⟨64 * h + e, by omega⟩)
      = (natOut X0 X1 X2 b r x h e : EReal) := by
  have hm := allS_meta X0 X1 X2 h0 h1 h2 b h r x
  have hg := allS_grid X0 X1 X2 h0 h1 h2 b h r x
  have ht := allS_ne_top X0 X1 X2 h0 h1 h2
  generalize hC : allS (metaS X0 X1) (gridS X0 X2) = C at *
  obtain ⟨M, hM⟩ := rowMax_real C ht b h r x ⟨(0 : Fin 16), by omega⟩ (by rw [hm 0]; exact EReal.coe_ne_bot _)
  rw [mix_at]
  simp only [norm_at]
  unfold natOut
  refine soft_real _ _ _ _ _ (Real.exp (-M)) (Real.exp_pos _) (fun n => rowExp C (ix5 b h r x n))
    (fun i => X1 (ix2 ⟨b * 16 + i, by omega⟩ ⟨2560 + (h * 64 + e), by omega⟩))
    (fun y z => X0 (ix2 ⟨b * 4096 + y * 64 + z, by omega⟩ ⟨2560 + (h * 64 + e), by omega⟩)) ?_ ?_ ?_ ?_
  · intro i
    show rowExp C (ix5 b h r x ⟨i, by omega⟩) = _
    rw [rowExp_at, hM, hm, exp_real]
  · intro y z
    show rowExp C (ix5 b h r x ⟨16 + (y * 64 + z), by omega⟩) = _
    rw [rowExp_at, hM, hg, exp_score]
  · intro i
    refine rd2_of X1 h1 _ _ _ _ ?_ ?_ <;> simp only <;> omega
  · intro y z
    refine rd2_of X0 h0 _ _ _ _ ?_ ?_ <;> simp only <;> omega

end Cert.ReferenceIdeal.Val

end
-- ==== Proof.Pre.lean ====
/- What the precondition says: every argument element is a real number. -/
module

public import proofs.«01_k».proof.Pre_finite
public import Idealize.ShloMosaic.Lib.KernelVsHost
public import Idealize.ShloMosaic.Lib.ReduceAll

@[expose] public section

set_option maxRecDepth 16384

noncomputable section

namespace Cert.Pre_finite

open Idealize.ShloMosaic

/-- An extended real whose absolute value is below `⊤` is a real number. -/
theorem real_of_lt (x : Ideal .f32)
    (h : FloatOps.cmpf .olt (FloatOps.hostAbsf x) (FloatOps.ofBits (F := Ideal) .f32 0x7F800000#32) = 1#1) :
    x = ((x : EReal).toReal : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine (EReal.coe_toReal ?_ ?_).symm
  · intro e; rw [e] at h'; simp at h'
  · intro e; rw [e] at h'; simp at h'

/-- One array of any shape: the conjunction of its comparisons is one only when all its elements are real. -/
theorem real_of_all {s u t : Shape} [Subsingleton u.Idx] {axes : List (Fin s.rank)} (X : FVec Ideal s .f32) {dims : Fin t.rank → Fin s.rank} (bc : t.BroadcastsInDim s dims)
    (k : FVec Ideal t .f32) (hk : ∀ i, k i = FloatOps.ofBits (F := Ideal) .f32 0x7F800000#32)
    (init : u.Idx → BitVec 1) (h : s.ReducesTo axes u) (hu : 0 < u.numel) (j : u.Idx)
    (e : Host.reduce IntOp.andi (cmpf .olt (Host.absf X) (broadcastInDim s dims bc k)) init h hu j = 1#1) (x : s.Idx) :
    X x = ((X x : EReal).toReal : EReal) := by
  refine real_of_lt (X x) ?_
  have hx := Host.reduce_andi_all _ _ h hu j e x
  have hb : broadcastInDim s dims bc k x = FloatOps.ofBits (F := Ideal) .f32 0x7F800000#32 := hk _
  rw [← hb]
  exact hx

/-- The precondition makes every element of the three arguments a real number. -/
theorem real_args [Facts] (X0 : FVec Ideal S65536x3840 .f32) (X1 : FVec Ideal S256x3840 .f32) (X2 : FVec Ideal S8x15x31 .f32)
    (h : fn (F := Ideal) X0 X1 X2 = fun _ => 1#1) :
    (∀ x, X0 x = ((X0 x : EReal).toReal : EReal)) ∧ (∀ x, X1 x = ((X1 x : EReal).toReal : EReal))
      ∧ (∀ x, X2 x = ((X2 x : EReal).toReal : EReal)) := by
  have : Subsingleton S_.Idx := ⟨fun a b => funext fun i => i.elim0⟩
  have e := congrFun h (fun i => i.elim0)
  unfold fn at e
  dsimp only at e
  obtain ⟨e12, e3⟩ := IntOp.andi_eq_one.1 e
  obtain ⟨e1, e2⟩ := IntOp.andi_eq_one.1 e12
  exact ⟨real_of_all X0 _ _ (fun _ => rfl) _ _ _ _ e1, real_of_all X1 _ _ (fun _ => rfl) _ _ _ _ e2,
    real_of_all X2 _ _ (fun _ => rfl) _ _ _ _ e3⟩

end Cert.Pre_finite

end
-- ==== Proof.Algebraic.lean ====
/- The claims: runs, the named constants, and the equality of the two results. -/
module

public import proofs.«01_k».proof.Defs
public import proofs.«01_k».proof.Proof.Array
public import proofs.«01_k».proof.Proof.RefTerm
public import proofs.«01_k».proof.Proof.RefVal
public import proofs.«01_k».proof.Proof.Pre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite

@[expose] public section

set_option maxRecDepth 16384

noncomputable section

namespace Cert.ReferenceIdeal.Val

open Cert.Nat2d Cert.ReferenceIdeal Cert.ReferenceIdeal.Gen Cert.ReferenceIdeal.Value Idealize.ShloMosaic Idealize.ShloMosaic.TcCoe Idealize.SL.Sem

/-- The reference's array is neighbourhood attention at every element. -/
theorem ref_array (X0 : FVec Ideal S65536x3840 .f32) (X1 : FVec Ideal S256x3840 .f32) (X2 : FVec Ideal S8x15x31 .f32)
    (h0 : ∀ x, X0 x = ((X0 x : EReal).toReal : EReal)) (h1 : ∀ x, X1 x = ((X1 x : EReal).toReal : EReal))
    (h2 : ∀ x, X2 x = ((X2 x : EReal).toReal : EReal)) :
    mix X0 X1 (norm (rowExp (allS (metaS X0 X1) (gridS X0 X2)))) = Cert.KernelIdeal.Tile.natArr X0 X1 X2 := by
  generalize hA : mix X0 X1 (norm (rowExp (allS (metaS X0 X1) (gridS X0 X2)))) = A
  funext i
  have g0 : (i 0).val < 65536 := (i 0).isLt
  have g1 : (i 1).val < 512 := (i 1).isLt
  have e := ref_at X0 X1 X2 h0 h1 h2 ⟨(i 0).val / 4096, by omega⟩ ⟨(i 1).val / 64, by omega⟩ ⟨(i 0).val % 4096 / 64, by omega⟩
    ⟨(i 0).val % 64, by omega⟩ ⟨(i 1).val % 64, by omega⟩
  rw [hA] at e
  have hi : i = ix2 ⟨4096 * ((i 0).val / 4096) + (64 * ((i 0).val % 4096 / 64) + (i 0).val % 64), by omega⟩
      ⟨64 * ((i 1).val / 64) + (i 1).val % 64, by omega⟩ := by
    funext a
    fin_cases a
    · exact Fin.ext (by show (i 0).val = 4096 * ((i 0).val / 4096) + (64 * ((i 0).val % 4096 / 64) + (i 0).val % 64); omega)
    · exact Fin.ext (by show (i 1).val = 64 * ((i 1).val / 64) + (i 1).val % 64; omega)
  exact (congrArg A hi).trans e

end Cert.ReferenceIdeal.Val

namespace Cert.Proof

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite : Cert.quiescent_ReferenceIdeal_pre_finite := fun m ρ _ => frame_ri m ρ trivial

theorem preserves : Cert.preserves_Kernel_KernelIdeal :=
  ⟨IdealRules.named_const.statement Cert.KernelIdeal.κ "qscale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

/-- Both programs end with neighbourhood attention of the same arguments. -/
theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite.real_args _ _ _ (hpre c)
  refine Eq.trans ?_ (Cert.KernelIdeal.Tile.final m c h0 h1 h2).symm
  rw [Cert.ReferenceIdeal.Val.res_eq]
  obtain ⟨a0, a1, a2⟩ := hagree c
  rw [a0, a1, a2]
  exact Cert.ReferenceIdeal.Val.ref_array _ _ _ h0 h1 h2

end Cert.Proof

end
-- ==== Proof.FfnPieces.lean ====
/- What one grid point of the feed-forward call leaves in its output block. -/
module

public import proofs.«01_k».proof.Proof.Gen.Kernel2Ideal.Value
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The columns of chunk `k`, counted from the last one, in the scratch buffer and in the two halves of the weights. -/
def aOff (k : Fin 11) : Fin 2 → ℕ := ![0, 256 * (10 - k)]
def uOff (k : Fin 11) : Fin 2 → ℕ := ![0, 2816 + 256 * (10 - k)]
theorem aOff_inb : ∀ k : Fin 11, ∀ a, aOff k a + S1024x256.size a ≤ S1024x2816.size a := by decide +kernel
theorem gOff_inb : ∀ k : Fin 11, ∀ a, aOff k a + S1024x256.size a ≤ S1024x5632.size a := by decide +kernel
theorem uOff_inb : ∀ k : Fin 11, ∀ a, uOff k a + S1024x256.size a ≤ S1024x5632.size a := by decide +kernel

variable (m : (ℓ : Loc nD τ sig) → Buf (Elt Ideal) ℓ)

/-- Chunk `k` of the gated unit of a block. -/
def gate (x0 : Vec Ideal S1024x1024 .f32) (x1 : Vec Ideal S1x1024 .f32) (x2 : Vec Ideal S1024x5632 .bf16) (k : Fin 11) : FVec Ideal S1024x256 .bf16 :=
  k0_pay2 (k0_pay4 x0 x1) (View.ld x2 (Rect.unit (s := S1024x5632) (aOff k) S1024x256.size (gOff_inb k)))
    (View.ld x2 (Rect.unit (s := S1024x5632) (uOff k) S1024x256.size (uOff_inb k)))

/-- The scratch buffer after the eleven chunks. -/
def act (x0 : Vec Ideal S1024x1024 .f32) (x1 : Vec Ideal S1x1024 .f32) (x2 : Vec Ideal S1024x5632 .bf16) : Vec Ideal S1024x2816 .bf16 :=
  View.canon (Val := Elt Ideal) (s := S1024x2816) (e := .bf16) (List.ofFn fun k : Fin 11 =>
    ⟨Rect.unit (s := S1024x2816) (aOff k) S1024x256.size (aOff_inb k), gate x0 x1 x2 k⟩)

theorem outs_eq (c : Dev nD) (t : Fin cfg0.N) :
    outsAt0 m c t = k0_pay3 (iblk m c 0 t) (act (iblk m c 0 t) (iblk m c 1 t) (iblk m c 2 t)) (iblk m c 3 t) := by
  unfold outsAt0
  frame_out
  refine congrArg (fun A => k0_pay3 (F := Ideal) (iblk m c 0 t) A (iblk m c 3 t)) ?_
  refine (View.readCov_eq_canon' _ _ _).trans (funext fun j => ?_)
  refine (congrArg _ (?_ : _ = j)).trans ?_
  · funext a
    fin_cases a <;> exact Fin.ext (by simp [LoadRect.idx, Rect.toLoadRect, Rect.unit])
  · refine congrFun (?_ : View.canon _ = View.canon _) j
    sl_kernel_rfl

end Cert.Kernel2Ideal.Ffn

end
-- ==== Proof.FfnSpec.lean ====
/- One row of the feed-forward half-step, over the extended reals, and the kernel's pieces at an element. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Ffn

open Idealize.ShloMosaic

/-- A row, normed and multiplied by the gain. -/
def normed (h g : Fin 1024 → EReal) (j : Fin 1024) : EReal :=
  h j * Ideal.rsqrt (Ideal.div (∑ k, h k * h k) (Ideal.ofBits .f32 0x44800000#32) + Ideal.ofBits .f32 0x358637BD#32) * g j

/-- One column of the gated unit: `a` times the logistic function of `a`, times the other product. -/
def unit (n wg wu : Fin 1024 → EReal) : EReal :=
  (∑ k, n k * wg k) * Ideal.logistic (∑ k, n k * wg k) * ∑ k, n k * wu k

/-- One element of the half-step. -/
def out (h g : Fin 1024 → EReal) (wg wu : Fin 2816 → Fin 1024 → EReal) (wo : Fin 2816 → EReal) (j : Fin 1024) : EReal :=
  h j + Ideal.ofBits .f32 0x3F000000#32 * ∑ c, unit (normed h g) (wg c) (wu c) * wo c

end Cert.Ffn

namespace Cert.Kernel2Ideal.Ffn

open Cert.Ffn Cert.Kernel2Ideal Cert.Kernel2Ideal.Gen Idealize.ShloMosaic Idealize.ShloMosaic.TcCoe Idealize.SL.Sem

theorem pay4_at (x0 : Vec Ideal S1024x1024 .f32) (x1 : Vec Ideal S1x1024 .f32) (r j : Fin 1024) :
    k0_pay4 x0 x1 (ix2 r j) = normed (fun k => x0 (ix2 r k)) (fun k => x1 (ix2 0 k)) j := by
  generalize hR : normed (fun k => x0 (ix2 r k)) (fun k => x1 (ix2 0 k)) j = R
  pointwise [k0_pay4]
  exact hR

theorem pay2_at (A : FVec Ideal S1024x1024 .bf16) (wg wu : Vec Ideal S1024x256 .bf16) (r : Fin 1024) (j : Fin 256) :
    k0_pay2 A wg wu (ix2 r j) = unit (fun k => A (ix2 r k)) (fun k => wg (ix2 k j)) (fun k => wu (ix2 k j)) := by
  generalize hR : unit (fun k => A (ix2 r k)) (fun k => wg (ix2 k j)) (fun k => wu (ix2 k j)) = R
  pointwise [k0_pay2]
  exact hR

theorem pay3_at (x0 : Vec Ideal S1024x1024 .f32) (A : Vec Ideal S1024x2816 .bf16) (w : Vec Ideal S2816x1024 .bf16) (r j : Fin 1024) :
    k0_pay3 x0 A w (ix2 r j) = x0 (ix2 r j) + Ideal.ofBits .f32 0x3F000000#32 * ∑ c : Fin 2816, A (ix2 r c) * w (ix2 c j) := by
  pointwise [k0_pay3]

end Cert.Kernel2Ideal.Ffn

end
-- ==== Proof.FfnArray.lean ====
/- What the feed-forward kernel finds in its blocks, what a point leaves, and the array it leaves at the end. -/
module

public import proofs.«01_k».proof.Proof.FfnPieces
public import proofs.«01_k».proof.Proof.FfnSpec
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Ffn

open Cert.Ffn Cert.Kernel2Ideal Cert.Kernel2Ideal.Gen Idealize.ShloMosaic Idealize.ShloMosaic.TcCoe Idealize.SL.Sem

/-! ## The host's operations -/

section
variable (m : (ℓ : Loc nD τ sig) → Buf (Elt Ideal) ℓ) (c : Dev nD)

theorem v0_at (a : Fin 1024) (j : Fin 5632) : V m c main_v0 (ix2 a j) = m ((c : Thread nD τ).loc main_arg2) (ix2 a j) := by
  simp only [V, hostOps0, List.flatten_cons, List.flatten_nil, List.append_nil, List.cons_append, List.nil_append]
  entry_read
  pointwise

theorem v1_at (a : Fin 2816) (j : Fin 1024) : V m c main_v1 (ix2 a j) = m ((c : Thread nD τ).loc main_arg3) (ix2 a j) := by
  simp only [V, hostOps0, List.flatten_cons, List.flatten_nil, List.append_nil, List.cons_append, List.nil_append]
  entry_read
  pointwise

theorem v2_at (j : Fin 1024) : V m c main_v2 (ix2 0 j) = m ((c : Thread nD τ).loc main_arg1) (ix1 j) := by
  simp only [V, hostOps0, List.flatten_cons, List.flatten_nil, List.append_nil, List.cons_append, List.nil_append]
  entry_read
  pointwise

theorem varg0_at (i : S65536x1024.Idx) : V m c main_arg0 i = m ((c : Thread nD τ).loc main_arg0) i := by
  simp only [V, hostOps0, List.flatten_cons, List.flatten_nil, List.append_nil, List.cons_append, List.nil_append]
  entry_read
  rfl

/-! ## The blocks -/

theorem idx0 : ∀ t : Fin cfg0.N, win0_0.index t 0 = t.val ∧ win0_0.index t 1 = 0 := (by decide +kernel : ∀ t : Fin grid0.N, _)
theorem idx1 : ∀ t : Fin cfg0.N, ∀ a, win0_1.index t a = 0 := (by decide +kernel : ∀ t : Fin grid0.N, ∀ a, win0_1.index t a = 0)
theorem idx2 : ∀ t : Fin cfg0.N, ∀ a, win0_2.index t a = 0 := (by decide +kernel : ∀ t : Fin grid0.N, ∀ a, win0_2.index t a = 0)
theorem idx3 : ∀ t : Fin cfg0.N, ∀ a, win0_3.index t a = 0 := (by decide +kernel : ∀ t : Fin grid0.N, ∀ a, win0_3.index t a = 0)
theorem idx4 : ∀ t : Fin cfg0.N, win0_4.index t 0 = t.val ∧ win0_4.index t 1 = 0 := (by decide +kernel : ∀ t : Fin grid0.N, _)

theorem tN (t : Fin cfg0.N) : t.val < 64 := t.isLt

theorem x0_at (t : Fin cfg0.N) (a j : Fin 1024) :
    iblk m c 0 t (ix2 a j) = m ((c : Thread nD τ).loc main_arg0) (ix2 ⟨1024 * t.val + a, by have := tN t; omega⟩ j) := by
  refine Eq.trans ?_ (varg0_at m c _)
  have h := idx0 t
  blk_simp [iblk]
  refine congrArg _ (funext fun b => Fin.ext ?_)
  blk_simp []
  fin_cases b
  · simp [h.1]; omega
  · simp [h.2]

theorem x1_at (t : Fin cfg0.N) (j : Fin 1024) : iblk m c 1 t (ix2 0 j) = m ((c : Thread nD τ).loc main_arg1) (ix1 j) := by
  refine Eq.trans ?_ (v2_at m c j)
  have hemb : ∀ b, (((((cfg0.win 1).blk t).view.emb (ix2 0 j : S1x1024.Idx)) b : Fin _) : ℕ) = ((ix2 0 j : S1x1024.Idx) b : ℕ) := by
    intro b
    refine Eq.trans (b := win0_1.index t b * S1x1024.size b + ((ix2 0 j : S1x1024.Idx) b : ℕ)) (ValueKit.view_emb_slice_whole_unit_val ..) ?_
    rw [idx1 t b, Nat.zero_mul, Nat.zero_add]
  unfold iblk
  generalize V m c = G
  rw [View.read_apply]
  refine (cast_eq _ _).trans ?_
  exact congrArg (G main_v2) (funext fun b => Fin.ext (hemb b))

theorem x2_at (t : Fin cfg0.N) (i : Fin 1024) (j : Fin 5632) : iblk m c 2 t (ix2 i j) = m ((c : Thread nD τ).loc main_arg2) (ix2 i j) := by
  refine Eq.trans ?_ (v0_at m c i j)
  have hemb : ∀ b, (((((cfg0.win 2).blk t).view.emb (ix2 i j : S1024x5632.Idx)) b : Fin _) : ℕ) = ((ix2 i j : S1024x5632.Idx) b : ℕ) := by
    intro b
    refine Eq.trans (b := win0_2.index t b * S1024x5632.size b + ((ix2 i j : S1024x5632.Idx) b : ℕ)) (ValueKit.view_emb_slice_whole_unit_val ..) ?_
    rw [idx2 t b, Nat.zero_mul, Nat.zero_add]
  unfold iblk
  generalize V m c = G
  rw [View.read_apply]
  refine (cast_eq _ _).trans ?_
  exact congrArg (G main_v0) (funext fun b => Fin.ext (hemb b))

theorem x3_at (t : Fin cfg0.N) (i : Fin 2816) (j : Fin 1024) : iblk m c 3 t (ix2 i j) = m ((c : Thread nD τ).loc main_arg3) (ix2 i j) := by
  refine Eq.trans ?_ (v1_at m c i j)
  have hemb : ∀ b, (((((cfg0.win 3).blk t).view.emb (ix2 i j : S2816x1024.Idx)) b : Fin _) : ℕ) = ((ix2 i j : S2816x1024.Idx) b : ℕ) := by
    intro b
    refine Eq.trans (b := win0_3.index t b * S2816x1024.size b + ((ix2 i j : S2816x1024.Idx) b : ℕ)) (ValueKit.view_emb_slice_whole_unit_val ..) ?_
    rw [idx3 t b, Nat.zero_mul, Nat.zero_add]
  unfold iblk
  generalize V m c = G
  rw [View.read_apply]
  refine (cast_eq _ _).trans ?_
  exact congrArg (G main_v1) (funext fun b => Fin.ext (hemb b))

end

/-! ## The gated unit -/

/-- The scratch buffer after the eleven chunks: the gated unit of every column. -/
theorem act_at (x0 : Vec Ideal S1024x1024 .f32) (x1 : Vec Ideal S1x1024 .f32) (x2 : Vec Ideal S1024x5632 .bf16) (r : Fin 1024) (j : Fin 2816) :
    act x0 x1 x2 (ix2 r j) = unit (normed (fun k => x0 (ix2 r k)) fun k => x1 (ix2 0 k))
      (fun k => x2 (ix2 k ⟨j, by omega⟩)) (fun k => x2 (ix2 k ⟨2816 + j, by omega⟩)) := by
  refine View.canon_ofFn_unit_eq_of_forall (Val := Elt Ideal) (S := S1024x2816) (e := .bf16) aOff S1024x256.size aOff_inb _ _ _
    ⟨⟨10 - j / 256, by omega⟩, fun a => ?_⟩ fun k => ?_
  · fin_cases a
    · show 0 ≤ (r : ℕ) ∧ (r : ℕ) < 0 + 1024; omega
    · show 256 * (10 - (10 - (j : ℕ) / 256)) ≤ (j : ℕ) ∧ (j : ℕ) < 256 * (10 - (10 - (j : ℕ) / 256)) + 256; omega
  · intro z hz
    have hz0 : (r : ℕ) = 0 + z 0 := hz 0
    have hz1 : (j : ℕ) = 256 * (10 - (k : ℕ)) + z 1 := hz 1
    have b0 : (z 0 : ℕ) < 1024 := (z 0).isLt
    have b1 : (z 1 : ℕ) < 256 := (z 1).isLt
    obtain ⟨l, hl⟩ : ∃ l : Fin 256, (z 1 : ℕ) = l := ⟨⟨z 1, b1⟩, rfl⟩
    have hzz : z = ix2 r l := by
      funext a
      fin_cases a
      · exact Fin.ext (by show (z 0 : ℕ) = r; omega)
      · exact Fin.ext hl
    rw [hzz]
    unfold gate
    refine (pay2_at _ _ _ r l).trans ?_
    have e1 : ∀ i, View.ld x2 (Rect.unit (s := S1024x5632) (aOff k) S1024x256.size (gOff_inb k)) (ix2 i l) = x2 (ix2 i ⟨j, by omega⟩) := fun i =>
      View.ld_unit_apply_of x2 _ _ _ _ _ fun a => by
        fin_cases a
        · exact (Nat.zero_add _).symm
        · show (j : ℕ) = 256 * (10 - (k : ℕ)) + l; omega
    have e2 : ∀ i, View.ld x2 (Rect.unit (s := S1024x5632) (uOff k) S1024x256.size (uOff_inb k)) (ix2 i l) = x2 (ix2 i ⟨2816 + j, by omega⟩) := fun i =>
      View.ld_unit_apply_of x2 _ _ _ _ _ fun a => by
        fin_cases a
        · exact (Nat.zero_add _).symm
        · show 2816 + (j : ℕ) = 2816 + 256 * (10 - (k : ℕ)) + l; omega
    simp only [e1, e2, pay4_at]

/-! ## The output -/

/-- The feed-forward half-step, as an array. -/
def ffnArr (X0 : (⟨2, ![65536, 1024]⟩ : Shape).Idx → EReal) (X1 : (⟨1, ![1024]⟩ : Shape).Idx → EReal)
    (X2 : (⟨2, ![1024, 5632]⟩ : Shape).Idx → EReal) (X3 : (⟨2, ![2816, 1024]⟩ : Shape).Idx → EReal) (r : Fin 65536) (j : Fin 1024) : EReal :=
  out (fun k => X0 (ix2 r k)) (fun k => X1 (ix1 k)) (fun i k => X2 (ix2 k ⟨i, by omega⟩)) (fun i k => X2 (ix2 k ⟨2816 + i, by omega⟩))
    (fun i => X3 (ix2 i j)) j

variable (m : (ℓ : Loc nD τ sig) → Buf (Elt Ideal) ℓ) (c : Dev nD)

theorem outs_at (t : Fin cfg0.N) (a j : Fin 1024) :
    outsAt0 m c t (ix2 a j) = ffnArr (m ((c : Thread nD τ).loc main_arg0)) (m ((c : Thread nD τ).loc main_arg1))
      (m ((c : Thread nD τ).loc main_arg2)) (m ((c : Thread nD τ).loc main_arg3)) ⟨1024 * t.val + a, by have := tN t; omega⟩ j := by
  rw [outs_eq]
  refine (pay3_at _ _ _ a j).trans ?_
  simp only [act_at, x0_at, x1_at, x2_at, x3_at]
  rfl

theorem final : (dats m 0 c).arrAt 4 cfg0.N
    = fun i : (⟨2, ![65536, 1024]⟩ : Shape).Idx => ffnArr (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  blk_simp []
  rw [after0_4]
  have h := idx4 t
  have hy : y = ix2 (y 0) (y 1) := by funext a; fin_cases a <;> rfl
  rw [hy]
  refine (outs_at m c t (y 0) (y 1)).trans ?_
  refine congrArg₂ _ (Fin.ext ?_) (Fin.ext ?_)
  · blk_simp []; simp [h.1]; omega
  · blk_simp []; simp [h.2]

end Cert.Kernel2Ideal.Ffn

end
-- ==== Proof.FfnRef.lean ====
/- The reference of the feed-forward half-step, at an element. -/
module

public import proofs.«01_k».proof.Proof.Gen.Reference2Ideal.Run
public import proofs.«01_k».proof.Proof.FfnSpec
public import Idealize.ShloMosaic.Lib.Pointwise

@[expose] public section

set_option maxRecDepth 16384

noncomputable section

namespace Cert.Reference2Ideal.Ffn

open Cert.Ffn Cert.Reference2Ideal Cert.Reference2Ideal.Gen Idealize.ShloMosaic Idealize.ShloMosaic.TcCoe Idealize.SL.Sem

/-- The rows, normed. -/
def norm (x0 : FVec Ideal S65536x1024 .f32) (x1 : FVec Ideal S1024 .f32) : FVec Ideal S65536x1024 .f32 :=
  mulf (mulf x0 (broadcastInDim S65536x1024 ![0, 1] bcast_S65536x1_S65536x1024_0_1 (Host.rsqrt (addf (Host.divf (broadcastInDim S65536x1 ![0] bcast_S65536_S65536x1_0 (Host.reduceAdd (mulf x0 x0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 x1))
/-- Their product with the input weights. -/
def proj (n : FVec Ideal S65536x1024 .f32) (x2 : FVec Ideal S1024x5632 .f32) : FVec Ideal S65536x5632 .f32 :=
  Host.dotGeneral dot_S65536x1024_S1024x5632_S65536x5632_1_0_0_1_n_n none n x2
/-- The gated unit. -/
def gated (D : FVec Ideal S65536x5632 .f32) : FVec Ideal S65536x2816 .f32 :=
  mulf (mulf (extractStridedSlice S65536x2816 ![0, 0] D slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] D slices_S65536x5632_S65536x2816_0_0)))))) (extractStridedSlice S65536x2816 ![0, 2816] D slices_S65536x5632_S65536x2816_0_2816)
/-- The output. -/
def result (x0 : FVec Ideal S65536x1024 .f32) (u : FVec Ideal S65536x2816 .f32) (x3 : FVec Ideal S2816x1024 .f32) : FVec Ideal S65536x1024 .f32 :=
  addf x0 (mulf (broadcastInDim S65536x1024 ![] bcast_S_S65536x1024 (constant S_ .f32 0x3F000000#32)) (Host.dotGeneral dot_S65536x2816_S2816x1024_S65536x1024_1_0_0_1_n_n none u x3))

theorem norm_at (x0 : FVec Ideal S65536x1024 .f32) (x1 : FVec Ideal S1024 .f32) (r : Fin 65536) (j : Fin 1024) :
    norm x0 x1 (ix2 r j) = normed (fun k => x0 (ix2 r k)) (fun k => x1 (ix1 k)) j := by
  generalize hR : normed (fun k => x0 (ix2 r k)) (fun k => x1 (ix1 k)) j = R
  pointwise [norm]
  exact hR

theorem proj_at (n : FVec Ideal S65536x1024 .f32) (x2 : FVec Ideal S1024x5632 .f32) (r : Fin 65536) (j : Fin 5632) :
    proj n x2 (ix2 r j) = ∑ k : Fin 1024, n (ix2 r k) * x2 (ix2 k j) := by
  pointwise [proj]

theorem gated_at (D : FVec Ideal S65536x5632 .f32) (r : Fin 65536) (j : Fin 2816) :
    gated D (ix2 r j) = D (ix2 r ⟨j, by omega⟩) * Ideal.logistic (D (ix2 r ⟨j, by omega⟩)) * D (ix2 r ⟨2816 + j, by omega⟩) := by
  pointwise [gated]
  rfl

theorem result_at (x0 : FVec Ideal S65536x1024 .f32) (u : FVec Ideal S65536x2816 .f32) (x3 : FVec Ideal S2816x1024 .f32) (r : Fin 65536) (j : Fin 1024) :
    result x0 u x3 (ix2 r j) = x0 (ix2 r j) + Ideal.ofBits .f32 0x3F000000#32 * ∑ c : Fin 2816, u (ix2 r c) * x3 (ix2 c j) := by
  pointwise [result]

end Cert.Reference2Ideal.Ffn

end
-- ==== Proof.Ffn.lean ====
/- The claims of the feed-forward half-step. -/
module

public import proofs.«01_k».proof.Defs
public import proofs.«01_k».proof.Proof.FfnArray
public import proofs.«01_k».proof.Proof.FfnRef
public import proofs.«01_k».proof.Proof.Gen.Kernel2
public import proofs.«01_k».proof.Proof.Gen.Kernel2.Frame
public import proofs.«01_k».proof.Proof.Gen.Kernel2Ideal.Frame
public import Idealize.ShloMosaic.Adequacy
public import Idealize.ShloMosaic.Init

@[expose] public section

noncomputable section

namespace Cert.Reference2Ideal.Ffn

open Cert.Ffn Cert.Reference2Ideal Cert.Reference2Ideal.Gen Idealize.ShloMosaic Idealize.ShloMosaic.TcCoe Idealize.SL.Sem

/-- The reference's result is the half-step of its arguments. -/
theorem ref_array (X0 : FVec Ideal S65536x1024 .f32) (X1 : FVec Ideal S1024 .f32) (X2 : FVec Ideal S1024x5632 .f32) (X3 : FVec Ideal S2816x1024 .f32) :
    result X0 (gated (proj (norm X0 X1) X2)) X3 = fun i : (⟨2, ![65536, 1024]⟩ : Shape).Idx => Cert.Kernel2Ideal.Ffn.ffnArr X0 X1 X2 X3 (i 0) (i 1) := by
  funext i
  obtain ⟨r, j, hi⟩ : ∃ (r : Fin 65536) (j : Fin 1024), i = ix2 r j := ⟨i 0, i 1, by funext a; fin_cases a <;> rfl⟩
  rw [hi]
  refine (result_at _ _ _ r j).trans ?_
  simp only [gated_at, proj_at, norm_at]
  rfl

end Cert.Reference2Ideal.Ffn

namespace Cert.Proof

open Idealize.ShloMosaic Idealize.ShloMosaic.TcCoe Idealize.SL.Sem

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

/-- Both programs end with the half-step of the same arguments. -/
theorem algebraic2 : Cert.algebraic_Kernel2Ideal_Reference2Ideal := by
  intro m ρ m' ρ' hpre hagree
  refine ⟨_, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  refine Eq.trans ?_ (Cert.Kernel2Ideal.Ffn.final m c).symm
  obtain ⟨a0, a1, a2, a3⟩ := hagree c
  rw [a0, a1, a2, a3]
  exact Cert.Reference2Ideal.Ffn.ref_array _ _ _ _

end Cert.Proof

end
-- ==== Proof.FfnFinal.lean ====
/- The last feed-forward half-step, with the norm of the stack's result joined to it. -/
module

public import proofs.«01_k».proof.Defs
public import proofs.«01_k».proof.Proof.Ffn
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Tactic
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel3Ideal.Ffn

open Cert.Ffn Cert.Kernel3Ideal Cert.Kernel3Ideal.Gen Idealize.ShloMosaic Idealize.ShloMosaic.TcCoe Idealize.SL.Sem

theorem pay17_at (x0 : Vec Ideal S1024x1024 .f32) (A : Vec Ideal S1024x2816 .bf16) (w : Vec Ideal S2816x1024 .bf16) (g : Vec Ideal S1x1024 .f32) (r j : Fin 1024) :
    k0_pay17 x0 A w g (ix2 r j) = normed (fun j => x0 (ix2 r j) + Ideal.ofBits .f32 0x3F000000#32 * ∑ c : Fin 2816, A (ix2 r c) * w (ix2 c j)) (fun k => g (ix2 0 k)) j := by
  generalize hR : normed (fun j => x0 (ix2 r j) + Ideal.ofBits .f32 0x3F000000#32 * ∑ c : Fin 2816, A (ix2 r c) * w (ix2 c j)) (fun k => g (ix2 0 k)) j = R
  pointwise [k0_pay17]
  exact hR

variable (m : (ℓ : Loc nD τ sig) → Buf (Elt Ideal) ℓ) (c : Dev nD)

theorem outs_eq (t : Fin cfg0.N) :
    outsAt0 m c t = k0_pay17 (iblk m c 0 t) (Cert.Kernel2Ideal.Ffn.act (iblk m c 0 t) (iblk m c 1 t) (iblk m c 2 t)) (iblk m c 3 t) (iblk m c 4 t) := by
  unfold outsAt0
  frame_out
  refine congrArg (fun A => k0_pay17 (F := Ideal) (iblk m c 0 t) A (iblk m c 3 t) (iblk m c 4 t)) ?_
  refine (View.readCov_eq_canon' _ _ _).trans (funext fun j => ?_)
  refine (congrArg _ (?_ : _ = j)).trans ?_
  · funext a
    fin_cases a <;> exact Fin.ext (by simp [LoadRect.idx, Rect.toLoadRect, Rect.unit])
  · refine congrFun (?_ : View.canon _ = View.canon _) j
    sl_kernel_rfl

/-! ## The host's operations -/

theorem v0_at (a : Fin 1024) (j : Fin 5632) : V m c main_v0 (ix2 a j) = m ((c : Thread nD τ).loc main_arg2) (ix2 a j) := by
  simp only [V, hostOps0, List.flatten_cons, List.flatten_nil, List.append_nil, List.cons_append, List.nil_append]
  entry_read
  pointwise

theorem v1_at (a : Fin 2816) (j : Fin 1024) : V m c main_v1 (ix2 a j) = m ((c : Thread nD τ).loc main_arg3) (ix2 a j) := by
  simp only [V, hostOps0, List.flatten_cons, List.flatten_nil, List.append_nil, List.cons_append, List.nil_append]
  entry_read
  pointwise

theorem v2_at (j : Fin 1024) : V m c main_v2 (ix2 0 j) = m ((c : Thread nD τ).loc main_arg1) (ix1 j) := by
  simp only [V, hostOps0, List.flatten_cons, List.flatten_nil, List.append_nil, List.cons_append, List.nil_append]
  entry_read
  pointwise

theorem v3_at (j : Fin 1024) : V m c main_v3 (ix2 0 j) = m ((c : Thread nD τ).loc main_arg4) (ix1 j) := by
  simp only [V, hostOps0, List.flatten_cons, List.flatten_nil, List.append_nil, List.cons_append, List.nil_append]
  entry_read
  pointwise

theorem varg_at (i : S65536x1024.Idx) : V m c main_arg0 i = m ((c : Thread nD τ).loc main_arg0) i := by
  simp only [V, hostOps0, List.flatten_cons, List.flatten_nil, List.append_nil, List.cons_append, List.nil_append]
  entry_read
  rfl

/-! ## The blocks -/

theorem idx0 : ∀ t : Fin cfg0.N, win0_0.index t 0 = t.val ∧ win0_0.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem tN (t : Fin cfg0.N) : t.val < 64 := t.isLt

theorem x0_at (t : Fin cfg0.N) (a : Fin 1024) (j : Fin 1024) :
    iblk m c 0 t (ix2 a j) = m ((c : Thread nD τ).loc main_arg0) (ix2 ⟨1024 * t.val + a, by have := tN t; omega⟩ j) := by
  refine Eq.trans ?_ (varg_at m c _)
  have h := idx0 t
  blk_simp [iblk]
  refine congrArg _ (funext fun b => Fin.ext ?_)
  blk_simp []
  fin_cases b
  · simp [h.1]; omega
  · simp [h.2]

theorem idx1 : ∀ t : Fin cfg0.N, ∀ a, win0_1.index t a = 0 := (by decide +kernel : ∀ t : Fin grid0.N, ∀ a, win0_1.index t a = 0)

theorem x1_at (t : Fin cfg0.N) (j : Fin 1024) : iblk m c 1 t (ix2 0 j) = m ((c : Thread nD τ).loc main_arg1) (ix1 j) := by
  refine Eq.trans ?_ (v2_at m c j)
  have hemb : ∀ b, (((((cfg0.win 1).blk t).view.emb ((ix2 0 j) : S1x1024.Idx)) b : Fin _) : ℕ) = (((ix2 0 j) : S1x1024.Idx) b : ℕ) := by
    intro b
    refine Eq.trans (b := win0_1.index t b * S1x1024.size b + (((ix2 0 j) : S1x1024.Idx) b : ℕ)) (ValueKit.view_emb_slice_whole_unit_val ..) ?_
    rw [idx1 t b, Nat.zero_mul, Nat.zero_add]
  unfold iblk
  generalize V m c = G
  rw [View.read_apply]
  refine (cast_eq _ _).trans ?_
  exact congrArg (G main_v2) (funext fun b => Fin.ext (hemb b))

theorem idx2 : ∀ t : Fin cfg0.N, ∀ a, win0_2.index t a = 0 := (by decide +kernel : ∀ t : Fin grid0.N, ∀ a, win0_2.index t a = 0)

theorem x2_at (t : Fin cfg0.N) (i : Fin 1024) (j : Fin 5632) : iblk m c 2 t (ix2 i j) = m ((c : Thread nD τ).loc main_arg2) (ix2 i j) := by
  refine Eq.trans ?_ (v0_at m c i j)
  have hemb : ∀ b, (((((cfg0.win 2).blk t).view.emb ((ix2 i j) : S1024x5632.Idx)) b : Fin _) : ℕ) = (((ix2 i j) : S1024x5632.Idx) b : ℕ) := by
    intro b
    refine Eq.trans (b := win0_2.index t b * S1024x5632.size b + (((ix2 i j) : S1024x5632.Idx) b : ℕ)) (ValueKit.view_emb_slice_whole_unit_val ..) ?_
    rw [idx2 t b, Nat.zero_mul, Nat.zero_add]
  unfold iblk
  generalize V m c = G
  rw [View.read_apply]
  refine (cast_eq _ _).trans ?_
  exact congrArg (G main_v0) (funext fun b => Fin.ext (hemb b))

theorem idx3 : ∀ t : Fin cfg0.N, ∀ a, win0_3.index t a = 0 := (by decide +kernel : ∀ t : Fin grid0.N, ∀ a, win0_3.index t a = 0)

theorem x3_at (t : Fin cfg0.N) (i : Fin 2816) (j : Fin 1024) : iblk m c 3 t (ix2 i j) = m ((c : Thread nD τ).loc main_arg3) (ix2 i j) := by
  refine Eq.trans ?_ (v1_at m c i j)
  have hemb : ∀ b, (((((cfg0.win 3).blk t).view.emb ((ix2 i j) : S2816x1024.Idx)) b : Fin _) : ℕ) = (((ix2 i j) : S2816x1024.Idx) b : ℕ) := by
    intro b
    refine Eq.trans (b := win0_3.index t b * S2816x1024.size b + (((ix2 i j) : S2816x1024.Idx) b : ℕ)) (ValueKit.view_emb_slice_whole_unit_val ..) ?_
    rw [idx3 t b, Nat.zero_mul, Nat.zero_add]
  unfold iblk
  generalize V m c = G
  rw [View.read_apply]
  refine (cast_eq _ _).trans ?_
  exact congrArg (G main_v1) (funext fun b => Fin.ext (hemb b))

theorem idx4 : ∀ t : Fin cfg0.N, ∀ a, win0_4.index t a = 0 := (by decide +kernel : ∀ t : Fin grid0.N, ∀ a, win0_4.index t a = 0)

theorem x4_at (t : Fin cfg0.N) (j : Fin 1024) : iblk m c 4 t (ix2 0 j) = m ((c : Thread nD τ).loc main_arg4) (ix1 j) := by
  refine Eq.trans ?_ (v3_at m c j)
  have hemb : ∀ b, (((((cfg0.win 4).blk t).view.emb ((ix2 0 j) : S1x1024.Idx)) b : Fin _) : ℕ) = (((ix2 0 j) : S1x1024.Idx) b : ℕ) := by
    intro b
    refine Eq.trans (b := win0_4.index t b * S1x1024.size b + (((ix2 0 j) : S1x1024.Idx) b : ℕ)) (ValueKit.view_emb_slice_whole_unit_val ..) ?_
    rw [idx4 t b, Nat.zero_mul, Nat.zero_add]
  unfold iblk
  generalize V m c = G
  rw [View.read_apply]
  refine (cast_eq _ _).trans ?_
  exact congrArg (G main_v3) (funext fun b => Fin.ext (hemb b))

/-! ## The output -/

/-- The last half-step with its norm, as an array. -/
def finArr (X0 : (⟨2, ![65536, 1024]⟩ : Shape).Idx → EReal) (X1 : (⟨1, ![1024]⟩ : Shape).Idx → EReal)
    (X2 : (⟨2, ![1024, 5632]⟩ : Shape).Idx → EReal) (X3 : (⟨2, ![2816, 1024]⟩ : Shape).Idx → EReal) (X4 : (⟨1, ![1024]⟩ : Shape).Idx → EReal)
    (r : Fin 65536) (j : Fin 1024) : EReal :=
  normed (fun j => Cert.Kernel2Ideal.Ffn.ffnArr X0 X1 X2 X3 r j) (fun k => X4 (ix1 k)) j

theorem outs_at (t : Fin cfg0.N) (a j : Fin 1024) :
    outsAt0 m c t (ix2 a j) = finArr (m ((c : Thread nD τ).loc main_arg0)) (m ((c : Thread nD τ).loc main_arg1))
      (m ((c : Thread nD τ).loc main_arg2)) (m ((c : Thread nD τ).loc main_arg3)) (m ((c : Thread nD τ).loc main_arg4)) ⟨1024 * t.val + a, by have := tN t; omega⟩ j := by
  rw [outs_eq]
  refine (pay17_at _ _ _ _ a j).trans ?_
  simp only [Cert.Kernel2Ideal.Ffn.act_at, x0_at, x1_at, x2_at, x3_at, x4_at]
  rfl

theorem final : (dats m 0 c).arrAt 5 cfg0.N
    = fun i : (⟨2, ![65536, 1024]⟩ : Shape).Idx => finArr (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp []
  rw [after0_5]
  have h := idx5 t
  have hy : y = ix2 (y 0) (y 1) := by funext a; fin_cases a <;> rfl
  rw [hy]
  refine (outs_at m c t (y 0) (y 1)).trans ?_
  refine congrArg₂ _ (Fin.ext ?_) (Fin.ext ?_)
  · blk_simp []; simp [h.1]; omega
  · blk_simp []; simp [h.2]

end Cert.Kernel3Ideal.Ffn

namespace Cert.Reference3Ideal.Ffn

open Cert.Ffn Cert.Reference2Ideal.Ffn Cert.Reference3Ideal Cert.Reference3Ideal.Gen Idealize.ShloMosaic Idealize.ShloMosaic.TcCoe Idealize.SL.Sem

theorem res_eq (m : (ℓ : Loc nD τ sig) → Buf (Elt Ideal) ℓ) (c : Dev nD) :
    Cert.Reference3Ideal.Value.res_main_v34 m c = norm (result (m ((c.tc : Thread nD τ).loc main_arg0)) (gated (proj (norm (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4)) := by
  rfl

theorem ref_array (X0 : FVec Ideal S65536x1024 .f32) (X1 : FVec Ideal S1024 .f32) (X2 : FVec Ideal S1024x5632 .f32) (X3 : FVec Ideal S2816x1024 .f32) (X4 : FVec Ideal S1024 .f32) :
    norm (result X0 (gated (proj (norm X0 X1) X2)) X3) X4 = fun i : (⟨2, ![65536, 1024]⟩ : Shape).Idx => Cert.Kernel3Ideal.Ffn.finArr X0 X1 X2 X3 X4 (i 0) (i 1) := by
  funext i
  obtain ⟨r, j, hi⟩ : ∃ (r : Fin 65536) (j : Fin 1024), i = ix2 r j := ⟨i 0, i 1, by funext a; fin_cases a <;> rfl⟩
  rw [hi]
  refine (norm_at _ _ r j).trans ?_
  simp only [Cert.Reference2Ideal.Ffn.ref_array]
  rfl

end Cert.Reference3Ideal.Ffn

namespace Cert.Proof

open Idealize.ShloMosaic Idealize.ShloMosaic.TcCoe Idealize.SL.Sem

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

/-- Both programs end with the normed half-step of the same arguments. -/
theorem algebraic3 : Cert.algebraic_Kernel3Ideal_Reference3Ideal := by
  intro m ρ m' ρ' hpre hagree
  refine ⟨_, Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  refine Eq.trans ?_ (Cert.Kernel3Ideal.Ffn.final m c).symm
  rw [Cert.Reference3Ideal.Ffn.res_eq]
  obtain ⟨a0, a1, a2, a3, a4⟩ := hagree c
  rw [a0, a1, a2, a3, a4]
  exact Cert.Reference3Ideal.Ffn.ref_array _ _ _ _ _

end Cert.Proof

end
-- ==== Proof.Merge.lean ====
/- The gated merge of the three mixers: the kernel and the reference at an element, and the claims. -/
module

public import proofs.«01_k».proof.Defs
public import proofs.«01_k».proof.Proof.FfnRef
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Tactic
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Merge

open Idealize.ShloMosaic

/-- One mixer's output behind its gate, at one column. -/
def branch (n wg : Fin 1024 → EReal) (y wb : Fin 512 → EReal) : EReal :=
  Ideal.logistic (∑ k, n k * wg k) * ∑ d, y d * wb d

/-- The sum of the three. -/
def merged (n : Fin 1024 → EReal) (wg : Fin 3 → Fin 1024 → EReal) (ya yb yc : Fin 512 → EReal) (wb : Fin 3 → Fin 512 → EReal) : EReal :=
  branch n (wg 0) ya (wb 0) + branch n (wg 1) yb (wb 1) + branch n (wg 2) yc (wb 2)

/-- The merge, as an array. -/
def mergeArr (X0 : (⟨2, ![65536, 1024]⟩ : Shape).Idx → EReal) (X1 : (⟨1, ![1024]⟩ : Shape).Idx → EReal)
    (X2 X3 X4 : (⟨2, ![65536, 512]⟩ : Shape).Idx → EReal) (X5 : (⟨3, ![3, 1024, 1024]⟩ : Shape).Idx → EReal)
    (X6 : (⟨3, ![3, 512, 1024]⟩ : Shape).Idx → EReal) (X7 : (⟨2, ![1024, 1024]⟩ : Shape).Idx → EReal) (r : Fin 65536) (j : Fin 1024) : EReal :=
  X0 (ix2 r j) + ∑ l : Fin 1024, merged (Cert.Ffn.normed (fun k => X0 (ix2 r k)) fun k => X1 (ix1 k)) (fun i k => X5 (ix3 i k l))
    (fun d => X2 (ix2 r d)) (fun d => X3 (ix2 r d)) (fun d => X4 (ix2 r d)) (fun i d => X6 (ix3 i d l)) * X7 (ix2 l j)

end Cert.Merge

namespace Cert.Kernel4Ideal.Mix

open Cert.Ffn Cert.Merge Cert.Kernel4Ideal Cert.Kernel4Ideal.Gen Idealize.ShloMosaic Idealize.ShloMosaic.TcCoe Idealize.SL.Sem

theorem pay2_at (x0 : Vec Ideal S1024x1024 .f32) (x1 : Vec Ideal S1x1024 .f32) (r j : Fin 1024) :
    k0_pay2 x0 x1 (ix2 r j) = normed (fun k => x0 (ix2 r k)) (fun k => x1 (ix2 0 k)) j := by
  generalize hR : normed (fun k => x0 (ix2 r k)) (fun k => x1 (ix2 0 k)) j = R
  pointwise [k0_pay2]
  exact hR

theorem pay3_at (x0 : Vec Ideal S1024x1024 .f32) (x1 : Vec Ideal S1x1024 .f32) (w : Vec Ideal S1x1024x1024 .bf16) (y : Vec Ideal S1024x512 .bf16)
    (b : Vec Ideal S1x512x1024 .bf16) (r j : Fin 1024) :
    k0_pay3 x0 x1 w y b (ix2 r j) = branch (fun k => k0_pay2 x0 x1 (ix2 r k)) (fun k => w (ix3 0 k j)) (fun d => y (ix2 r d)) (fun d => b (ix3 0 d j)) := by
  unfold k0_pay3
  generalize k0_pay2 x0 x1 = A
  generalize hR : branch (fun k => A (ix2 r k)) (fun k => w (ix3 0 k j)) (fun d => y (ix2 r d)) (fun d => b (ix3 0 d j)) = R
  pointwise
  exact hR

theorem pay4_at (x0 : Vec Ideal S1024x1024 .f32) (x1 : Vec Ideal S1x1024 .f32) (w : Vec Ideal S1x1024x1024 .bf16) (r j : Fin 1024) :
    k0_pay4 x0 x1 w (ix2 r j) = Ideal.logistic (∑ k : Fin 1024, k0_pay2 x0 x1 (ix2 r k) * w (ix3 0 k j)) := by
  unfold k0_pay4
  generalize k0_pay2 x0 x1 = A
  pointwise

theorem pay5_at (y : Vec Ideal S1024x512 .bf16) (r : Fin 1024) (d : Fin 512) : k0_pay5 y (ix2 r d) = y (ix2 r d) := by
  pointwise [k0_pay5]

theorem pay1_at (x0 : Vec Ideal S1024x1024 .f32) (A : FVec Ideal S1024x1024 .bf16) (p q : FVec Ideal S1024x1024 .f32) (y : FVec Ideal S1024x512 .bf16)
    (b : Vec Ideal S1x512x1024 .bf16) (w : Vec Ideal S1x1024x1024 .bf16) (y2 : Vec Ideal S1024x512 .bf16) (b2 : Vec Ideal S1x512x1024 .bf16)
    (wo : Vec Ideal S1024x1024 .bf16) (r j : Fin 1024) :
    k0_pay1 x0 A p q y b w y2 b2 wo (ix2 r j) = x0 (ix2 r j) + ∑ l : Fin 1024, (p (ix2 r l) + q (ix2 r l) * ∑ d : Fin 512, y (ix2 r d) * b (ix3 0 d l)
      + branch (fun k => A (ix2 r k)) (fun k => w (ix3 0 k l)) (fun d => y2 (ix2 r d)) (fun d => b2 (ix3 0 d l))) * wo (ix2 l j) := by
  suffices hh : ∀ R : EReal, R = x0 (ix2 r j) + ∑ l : Fin 1024, (p (ix2 r l) + q (ix2 r l) * ∑ d : Fin 512, y (ix2 r d) * b (ix3 0 d l)
      + branch (fun k => A (ix2 r k)) (fun k => w (ix3 0 k l)) (fun d => y2 (ix2 r d)) (fun d => b2 (ix3 0 d l))) * wo (ix2 l j)
      → k0_pay1 x0 A p q y b w y2 b2 wo (ix2 r j) = R from hh _ rfl
  intro R hR
  pointwise [k0_pay1]
  exact hR.symm

variable (m : (ℓ : Loc nD τ sig) → Buf (Elt Ideal) ℓ) (c : Dev nD)

/-! ## The host's operations -/

theorem v0_at (a : Fin 65536) (j : Fin 512) : V m c main_v0 (ix2 a j) = m ((c : Thread nD τ).loc main_arg2) (ix2 a j) := by
  simp only [V, hostOps0, List.flatten_cons, List.flatten_nil, List.append_nil, List.cons_append, List.nil_append]
  entry_read
  pointwise

theorem v1_at (a : Fin 65536) (j : Fin 512) : V m c main_v1 (ix2 a j) = m ((c : Thread nD τ).loc main_arg3) (ix2 a j) := by
  simp only [V, hostOps0, List.flatten_cons, List.flatten_nil, List.append_nil, List.cons_append, List.nil_append]
  entry_read
  pointwise

theorem v2_at (a : Fin 65536) (j : Fin 512) : V m c main_v2 (ix2 a j) = m ((c : Thread nD τ).loc main_arg4) (ix2 a j) := by
  simp only [V, hostOps0, List.flatten_cons, List.flatten_nil, List.append_nil, List.cons_append, List.nil_append]
  entry_read
  pointwise

theorem v3_at (i : Fin 3) (a j : Fin 1024) : V m c main_v3 (ix3 i a j) = m ((c : Thread nD τ).loc main_arg5) (ix3 i a j) := by
  simp only [V, hostOps0, List.flatten_cons, List.flatten_nil, List.append_nil, List.cons_append, List.nil_append]
  entry_read
  pointwise

theorem v4_at (i : Fin 3) (a : Fin 512) (j : Fin 1024) : V m c main_v4 (ix3 i a j) = m ((c : Thread nD τ).loc main_arg6) (ix3 i a j) := by
  simp only [V, hostOps0, List.flatten_cons, List.flatten_nil, List.append_nil, List.cons_append, List.nil_append]
  entry_read
  pointwise

theorem v5_at (a j : Fin 1024) : V m c main_v5 (ix2 a j) = m ((c : Thread nD τ).loc main_arg7) (ix2 a j) := by
  simp only [V, hostOps0, List.flatten_cons, List.flatten_nil, List.append_nil, List.cons_append, List.nil_append]
  entry_read
  pointwise

theorem v6_at (j : Fin 1024) : V m c main_v6 (ix2 0 j) = m ((c : Thread nD τ).loc main_arg1) (ix1 j) := by
  simp only [V, hostOps0, List.flatten_cons, List.flatten_nil, List.append_nil, List.cons_append, List.nil_append]
  entry_read
  pointwise

theorem varg_at (i : S65536x1024.Idx) : V m c main_arg0 i = m ((c : Thread nD τ).loc main_arg0) i := by
  simp only [V, hostOps0, List.flatten_cons, List.flatten_nil, List.append_nil, List.cons_append, List.nil_append]
  entry_read
  rfl

/-! ## The blocks -/

theorem idx0 : ∀ t : Fin cfg0.N, win0_0.index t 0 = t.val ∧ win0_0.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx8 : ∀ t : Fin cfg0.N, win0_8.index t 0 = t.val ∧ win0_8.index t 1 = 0 := (by decide +kernel : ∀ t : Fin grid0.N, _)
theorem tN (t : Fin cfg0.N) : t.val < 64 := t.isLt

theorem x0_at (t : Fin cfg0.N) (a : Fin 1024) (j : Fin 1024) :
    iblk m c 0 t (ix2 a j) = m ((c : Thread nD τ).loc main_arg0) (ix2 ⟨1024 * t.val + a, by have := tN t; omega⟩ j) := by
  refine Eq.trans ?_ (varg_at m c _)
  have h := idx0 t
  blk_simp [iblk]
  refine congrArg _ (funext fun b => Fin.ext ?_)
  blk_simp []
  fin_cases b
  · simp [h.1]; omega
  · simp [h.2]

theorem idx1 : ∀ t : Fin cfg0.N, ∀ a, win0_1.index t a = 0 := (by decide +kernel : ∀ t : Fin grid0.N, ∀ a, win0_1.index t a = 0)

theorem x1_at (t : Fin cfg0.N) (j : Fin 1024) : iblk m c 1 t (ix2 0 j) = m ((c : Thread nD τ).loc main_arg1) (ix1 j) := by
  refine Eq.trans ?_ (v6_at m c j)
  have hemb : ∀ b, (((((cfg0.win 1).blk t).view.emb ((ix2 0 j) : S1x1024.Idx)) b : Fin _) : ℕ) = (((ix2 0 j) : S1x1024.Idx) b : ℕ) := by
    intro b
    refine Eq.trans (b := win0_1.index t b * S1x1024.size b + (((ix2 0 j) : S1x1024.Idx) b : ℕ)) (ValueKit.view_emb_slice_whole_unit_val ..) ?_
    rw [idx1 t b, Nat.zero_mul, Nat.zero_add]
  unfold iblk
  generalize V m c = G
  rw [View.read_apply]
  refine (cast_eq _ _).trans ?_
  exact congrArg (G main_v6) (funext fun b => Fin.ext (hemb b))

theorem x2_at (t : Fin cfg0.N) (a : Fin 1024) (j : Fin 512) :
    iblk m c 2 t (ix2 a j) = m ((c : Thread nD τ).loc main_arg2) (ix2 ⟨1024 * t.val + a, by have := tN t; omega⟩ j) := by
  refine Eq.trans ?_ (v0_at m c _ _)
  have h := idx2 t
  blk_simp [iblk]
  refine congrArg _ (funext fun b => Fin.ext ?_)
  blk_simp []
  fin_cases b
  · simp [h.1]; omega
  · simp [h.2]

theorem x3_at (t : Fin cfg0.N) (a : Fin 1024) (j : Fin 512) :
    iblk m c 3 t (ix2 a j) = m ((c : Thread nD τ).loc main_arg3) (ix2 ⟨1024 * t.val + a, by have := tN t; omega⟩ j) := by
  refine Eq.trans ?_ (v1_at m c _ _)
  have h := idx3 t
  blk_simp [iblk]
  refine congrArg _ (funext fun b => Fin.ext ?_)
  blk_simp []
  fin_cases b
  · simp [h.1]; omega
  · simp [h.2]

theorem x4_at (t : Fin cfg0.N) (a : Fin 1024) (j : Fin 512) :
    iblk m c 4 t (ix2 a j) = m ((c : Thread nD τ).loc main_arg4) (ix2 ⟨1024 * t.val + a, by have := tN t; omega⟩ j) := by
  refine Eq.trans ?_ (v2_at m c _ _)
  have h := idx4 t
  blk_simp [iblk]
  refine congrArg _ (funext fun b => Fin.ext ?_)
  blk_simp []
  fin_cases b
  · simp [h.1]; omega
  · simp [h.2]

theorem idx5 : ∀ t : Fin cfg0.N, ∀ a, win0_5.index t a = 0 := (by decide +kernel : ∀ t : Fin grid0.N, ∀ a, win0_5.index t a = 0)

theorem x5_at (t : Fin cfg0.N) (i : Fin 3) (k j : Fin 1024) : iblk m c 5 t (ix3 i k j) = m ((c : Thread nD τ).loc main_arg5) (ix3 i k j) := by
  refine Eq.trans ?_ (v3_at m c i k j)
  have hemb : ∀ b, (((((cfg0.win 5).blk t).view.emb ((ix3 i k j) : S3x1024x1024.Idx)) b : Fin _) : ℕ) = (((ix3 i k j) : S3x1024x1024.Idx) b : ℕ) := by
    intro b
    refine Eq.trans (b := win0_5.index t b * S3x1024x1024.size b + (((ix3 i k j) : S3x1024x1024.Idx) b : ℕ)) (ValueKit.view_emb_slice_whole_unit_val ..) ?_
    rw [idx5 t b, Nat.zero_mul, Nat.zero_add]
  unfold iblk
  generalize V m c = G
  rw [View.read_apply]
  refine (cast_eq _ _).trans ?_
  exact congrArg (G main_v3) (funext fun b => Fin.ext (hemb b))

theorem idx6 : ∀ t : Fin cfg0.N, ∀ a, win0_6.index t a = 0 := (by decide +kernel : ∀ t : Fin grid0.N, ∀ a, win0_6.index t a = 0)

theorem x6_at (t : Fin cfg0.N) (i : Fin 3) (k : Fin 512) (j : Fin 1024) : iblk m c 6 t (ix3 i k j) = m ((c : Thread nD τ).loc main_arg6) (ix3 i k j) := by
  refine Eq.trans ?_ (v4_at m c i k j)
  have hemb : ∀ b, (((((cfg0.win 6).blk t).view.emb ((ix3 i k j) : S3x512x1024.Idx)) b : Fin _) : ℕ) = (((ix3 i k j) : S3x512x1024.Idx) b : ℕ) := by
    intro b
    refine Eq.trans (b := win0_6.index t b * S3x512x1024.size b + (((ix3 i k j) : S3x512x1024.Idx) b : ℕ)) (ValueKit.view_emb_slice_whole_unit_val ..) ?_
    rw [idx6 t b, Nat.zero_mul, Nat.zero_add]
  unfold iblk
  generalize V m c = G
  rw [View.read_apply]
  refine (cast_eq _ _).trans ?_
  exact congrArg (G main_v4) (funext fun b => Fin.ext (hemb b))

theorem idx7 : ∀ t : Fin cfg0.N, ∀ a, win0_7.index t a = 0 := (by decide +kernel : ∀ t : Fin grid0.N, ∀ a, win0_7.index t a = 0)

theorem x7_at (t : Fin cfg0.N) (k j : Fin 1024) : iblk m c 7 t (ix2 k j) = m ((c : Thread nD τ).loc main_arg7) (ix2 k j) := by
  refine Eq.trans ?_ (v5_at m c k j)
  have hemb : ∀ b, (((((cfg0.win 7).blk t).view.emb ((ix2 k j) : S1024x1024.Idx)) b : Fin _) : ℕ) = (((ix2 k j) : S1024x1024.Idx) b : ℕ) := by
    intro b
    refine Eq.trans (b := win0_7.index t b * S1024x1024.size b + (((ix2 k j) : S1024x1024.Idx) b : ℕ)) (ValueKit.view_emb_slice_whole_unit_val ..) ?_
    rw [idx7 t b, Nat.zero_mul, Nat.zero_add]
  unfold iblk
  generalize V m c = G
  rw [View.read_apply]
  refine (cast_eq _ _).trans ?_
  exact congrArg (G main_v5) (funext fun b => Fin.ext (hemb b))

/-! ## The output -/

theorem ldw_at (x : Vec Ideal S3x1024x1024 .bf16) (i : Fin 3) (h : ∀ a, (![(i : ℕ), 0, 0] : Fin 3 → ℕ) a + S1x1024x1024.size a ≤ S3x1024x1024.size a) (k j : Fin 1024) :
    View.ld x (Rect.unit (s := S3x1024x1024) ![(i : ℕ), 0, 0] S1x1024x1024.size h) (ix3 0 k j) = x (ix3 i k j) :=
  View.ld_unit_apply_of x _ _ _ _ _ fun a => by
    fin_cases a
    · rfl
    · exact (Nat.zero_add _).symm
    · exact (Nat.zero_add _).symm

theorem ldb_at (x : Vec Ideal S3x512x1024 .bf16) (i : Fin 3) (h : ∀ a, (![(i : ℕ), 0, 0] : Fin 3 → ℕ) a + S1x512x1024.size a ≤ S3x512x1024.size a) (k : Fin 512) (j : Fin 1024) :
    View.ld x (Rect.unit (s := S3x512x1024) ![(i : ℕ), 0, 0] S1x512x1024.size h) (ix3 0 k j) = x (ix3 i k j) :=
  View.ld_unit_apply_of x _ _ _ _ _ fun a => by
    fin_cases a
    · rfl
    · exact (Nat.zero_add _).symm
    · exact (Nat.zero_add _).symm

theorem outs_at (t : Fin cfg0.N) (a j : Fin 1024) :
    out0_8 (iblk m c 0 t) (iblk m c 1 t) (iblk m c 2 t) (iblk m c 3 t) (iblk m c 4 t) (iblk m c 5 t) (iblk m c 6 t) (iblk m c 7 t) (ix2 a j) = mergeArr (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) ⟨1024 * t.val + a, by have := tN t; omega⟩ j := by
  unfold out0_8
  frame_out
  refine (pay1_at _ _ _ _ _ _ _ _ _ _ a j).trans ?_
  simp only [pay2_at, pay3_at, pay4_at, pay5_at]
  have w0 := ldw_at (iblk m c 5 t) 0
  have w1 := ldw_at (iblk m c 5 t) 1
  have w2 := ldw_at (iblk m c 5 t) 2
  have b0 := ldb_at (iblk m c 6 t) 0
  have b1 := ldb_at (iblk m c 6 t) 1
  have b2 := ldb_at (iblk m c 6 t) 2
  simp only [Fin.val_zero, Fin.val_one, Fin.val_two] at w0 w1 w2 b0 b1 b2
  simp only [w0, w1, w2, b0, b1, b2, x0_at, x1_at, x2_at, x3_at, x4_at, x5_at, x6_at, x7_at]
  rfl

theorem final : (dats m 0 c).arrAt 8 cfg0.N
    = fun i : (⟨2, ![65536, 1024]⟩ : Shape).Idx => mergeArr (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) := by
  refine (dats m 0 c).arrAt_eq_of_covers 8 _ (by decide +kernel) fun t hf y => ?_
  blk_simp []
  rw [after0_8]
  have h := idx8 t
  have hy : y = ix2 (y 0) (y 1) := by funext a; fin_cases a <;> rfl
  rw [hy]
  refine (outs_at m c t (y 0) (y 1)).trans ?_
  refine congrArg₂ _ (Fin.ext ?_) (Fin.ext ?_)
  · blk_simp []; simp [h.1]; omega
  · blk_simp []; simp [h.2]

end Cert.Kernel4Ideal.Mix

namespace Cert.Reference4Ideal.Mix

open Cert.Ffn Cert.Merge Cert.Reference2Ideal.Ffn Cert.Reference4Ideal Cert.Reference4Ideal.Gen Idealize.ShloMosaic Idealize.ShloMosaic.TcCoe Idealize.SL.Sem

/-- One mixer's output behind its gate. -/
def gatedBranch (n : FVec Ideal S65536x1024 .f32) (w : FVec Ideal S1024x1024 .f32) (y : FVec Ideal S65536x512 .f32) (b : FVec Ideal S512x1024 .f32) : FVec Ideal S65536x1024 .f32 :=
  mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none n w))))) (Host.dotGeneral dot_S65536x512_S512x1024_S65536x1024_1_0_0_1_n_n none y b)

def gate0 (W : FVec Ideal S3x1024x1024 .f32) : FVec Ideal S1024x1024 .f32 := shapeCast _ (extractStridedSlice S1x1024x1024 ![0, 0, 0] W slices_S3x1024x1024_S1x1024x1024_0_0_0) shapeCasts_S1x1024x1024_S1024x1024
def gate1 (W : FVec Ideal S3x1024x1024 .f32) : FVec Ideal S1024x1024 .f32 := shapeCast _ (extractStridedSlice S1x1024x1024 ![1, 0, 0] W slices_S3x1024x1024_S1x1024x1024_1_0_0) shapeCasts_S1x1024x1024_S1024x1024
def gate2 (W : FVec Ideal S3x1024x1024 .f32) : FVec Ideal S1024x1024 .f32 := shapeCast _ (extractStridedSlice S1x1024x1024 ![2, 0, 0] W slices_S3x1024x1024_S1x1024x1024_2_0_0) shapeCasts_S1x1024x1024_S1024x1024
def proj0 (W : FVec Ideal S3x512x1024 .f32) : FVec Ideal S512x1024 .f32 := shapeCast _ (extractStridedSlice S1x512x1024 ![0, 0, 0] W slices_S3x512x1024_S1x512x1024_0_0_0) shapeCasts_S1x512x1024_S512x1024
def proj1 (W : FVec Ideal S3x512x1024 .f32) : FVec Ideal S512x1024 .f32 := shapeCast _ (extractStridedSlice S1x512x1024 ![1, 0, 0] W slices_S3x512x1024_S1x512x1024_1_0_0) shapeCasts_S1x512x1024_S512x1024
def proj2 (W : FVec Ideal S3x512x1024 .f32) : FVec Ideal S512x1024 .f32 := shapeCast _ (extractStridedSlice S1x512x1024 ![2, 0, 0] W slices_S3x512x1024_S1x512x1024_2_0_0) shapeCasts_S1x512x1024_S512x1024

/-- The residual and the product of the merged rows with the output weights. -/
def res (x0 M : FVec Ideal S65536x1024 .f32) (w : FVec Ideal S1024x1024 .f32) : FVec Ideal S65536x1024 .f32 :=
  addf x0 (Host.dotGeneral dot_S65536x1024_S1024x1024_S65536x1024_1_0_0_1_n_n none M w)

theorem branch_at (n : FVec Ideal S65536x1024 .f32) (w : FVec Ideal S1024x1024 .f32) (y : FVec Ideal S65536x512 .f32) (b : FVec Ideal S512x1024 .f32) (r : Fin 65536) (j : Fin 1024) :
    gatedBranch n w y b (ix2 r j) = branch (fun k => n (ix2 r k)) (fun k => w (ix2 k j)) (fun d => y (ix2 r d)) (fun d => b (ix2 d j)) := by
  generalize hR : branch (fun k => n (ix2 r k)) (fun k => w (ix2 k j)) (fun d => y (ix2 r d)) (fun d => b (ix2 d j)) = R
  pointwise [gatedBranch]
  exact hR

theorem gate0_at (W : FVec Ideal S3x1024x1024 .f32) (k j : Fin 1024) : gate0 W (ix2 k j) = W (ix3 0 k j) := by pointwise [gate0]
theorem gate1_at (W : FVec Ideal S3x1024x1024 .f32) (k j : Fin 1024) : gate1 W (ix2 k j) = W (ix3 1 k j) := by pointwise [gate1]
theorem gate2_at (W : FVec Ideal S3x1024x1024 .f32) (k j : Fin 1024) : gate2 W (ix2 k j) = W (ix3 2 k j) := by pointwise [gate2]
theorem proj0_at (W : FVec Ideal S3x512x1024 .f32) (k : Fin 512) (j : Fin 1024) : proj0 W (ix2 k j) = W (ix3 0 k j) := by pointwise [proj0]
theorem proj1_at (W : FVec Ideal S3x512x1024 .f32) (k : Fin 512) (j : Fin 1024) : proj1 W (ix2 k j) = W (ix3 1 k j) := by pointwise [proj1]
theorem proj2_at (W : FVec Ideal S3x512x1024 .f32) (k : Fin 512) (j : Fin 1024) : proj2 W (ix2 k j) = W (ix3 2 k j) := by pointwise [proj2]

theorem res_at (x0 M : FVec Ideal S65536x1024 .f32) (w : FVec Ideal S1024x1024 .f32) (r : Fin 65536) (j : Fin 1024) :
    res x0 M w (ix2 r j) = x0 (ix2 r j) + ∑ l : Fin 1024, M (ix2 r l) * w (ix2 l j) := by
  pointwise [res]

/-- The reference's term, by its steps. -/
def term (x0 : FVec Ideal S65536x1024 .f32) (x1 : FVec Ideal S1024 .f32) (x2 x3 x4 : FVec Ideal S65536x512 .f32) (x5 : FVec Ideal S3x1024x1024 .f32)
    (x6 : FVec Ideal S3x512x1024 .f32) (x7 : FVec Ideal S1024x1024 .f32) : FVec Ideal S65536x1024 .f32 :=
  res x0 (addf (addf (gatedBranch (norm x0 x1) (gate0 x5) x2 (proj0 x6)) (gatedBranch (norm x0 x1) (gate1 x5) x3 (proj1 x6)))
    (gatedBranch (norm x0 x1) (gate2 x5) x4 (proj2 x6))) x7

theorem res_eq (m : (ℓ : Loc nD τ sig) → Buf (Elt Ideal) ℓ) (c : Dev nD) :
    Cert.Reference4Ideal.Value.res_main_v55 m c = term (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rfl

theorem ref_array (x0 : FVec Ideal S65536x1024 .f32) (x1 : FVec Ideal S1024 .f32) (x2 x3 x4 : FVec Ideal S65536x512 .f32) (x5 : FVec Ideal S3x1024x1024 .f32)
    (x6 : FVec Ideal S3x512x1024 .f32) (x7 : FVec Ideal S1024x1024 .f32) :
    term x0 x1 x2 x3 x4 x5 x6 x7 = fun i : (⟨2, ![65536, 1024]⟩ : Shape).Idx => mergeArr x0 x1 x2 x3 x4 x5 x6 x7 (i 0) (i 1) := by
  funext i
  obtain ⟨r, j, hi⟩ : ∃ (r : Fin 65536) (j : Fin 1024), i = ix2 r j := ⟨i 0, i 1, by funext a; fin_cases a <;> rfl⟩
  rw [hi]
  refine (res_at _ _ _ r j).trans ?_
  refine congrArg (x0 (ix2 r j) + ·) (Finset.sum_congr rfl fun l _ => congrArg (· * x7 (ix2 l j)) ?_)
  refine (congrArg₂ (· + ·) (congrArg₂ (· + ·) (branch_at _ _ _ _ r l) (branch_at _ _ _ _ r l)) (branch_at _ _ _ _ r l) : _).trans ?_
  simp only [gate0_at, gate1_at, gate2_at, proj0_at, proj1_at, proj2_at, norm_at]
  rfl

end Cert.Reference4Ideal.Mix

namespace Cert.Proof

open Idealize.ShloMosaic Idealize.ShloMosaic.TcCoe Idealize.SL.Sem

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal := trivial

/-- Both programs end with the merge of the same arguments. -/
theorem algebraic4 : Cert.algebraic_Kernel4Ideal_Reference4Ideal := by
  intro m ρ m' ρ' hpre hagree
  refine ⟨_, Cert.Kernel4Ideal.Value.run_blocks m ρ, ?_⟩
  refine (θ_run Cert.Reference4Ideal.defs _ _).mono (fun _ h c => ⟨(h c).1.trans ?_, (h c).2⟩)
    (Cert.Reference4Ideal.Value.run (F := Ideal) m' ρ')
  refine Eq.trans ?_ (Cert.Kernel4Ideal.Mix.final m c).symm
  rw [Cert.Reference4Ideal.Mix.res_eq]
  obtain ⟨a0, a1, a2, a3, a4, a5, a6, a7⟩ := hagree c
  rw [a0, a1, a2, a3, a4, a5, a6, a7]
  exact Cert.Reference4Ideal.Mix.ref_array _ _ _ _ _ _ _ _

end Cert.Proof

end
-- ==== Proof.InprojPieces.lean ====
/- The input projection: what one grid point leaves in its four output blocks. The first is stored in five chunks of 768 columns;
   the other three in tiles of 128 rows of values, one for each group and each chunk of tokens, each with 16 rows of ones below. -/
module

public import proofs.«01_k».proof.Proof.FfnSpec
public import proofs.«01_k».proof.Proof.Gen.Kernel5Ideal.Value
public import Idealize.ShloMosaic.Lib.Pipeline.ValueKit
public import Idealize.ShloMosaic.Lib.Pipeline.ReadBack
public import Idealize.ShloMosaic.Lib.Tactic
public import Idealize.ShloMosaic.Lib.Pointwise

@[expose] public section

set_option maxRecDepth 16384

noncomputable section

namespace Cert.Kernel5Ideal.Inproj

open Cert.Ffn Cert.Kernel5Ideal Cert.Kernel5Ideal.Gen Idealize.ShloMosaic Idealize.ShloMosaic.TcCoe Idealize.SL.Sem

/-! ## The stores -/

def cOff (k : Fin 5) : Fin 2 → ℕ := ![0, 768 * (4 - k)]
theorem cOff_inb : ∀ k : Fin 5, ∀ a, cOff k a + S1024x768.size a ≤ S1024x3840.size a := by decide +kernel

/-- The first output block: the chunks of columns, the last store first. -/
def projBlock (x0 : Vec Ideal S1024x1024 .f32) (x1 : Vec Ideal S1x1024 .f32) (x2 : Vec Ideal S1024x3840 .bf16) : Vec Ideal S1024x3840 .bf16 :=
  View.canon (Val := Elt Ideal) (s := S1024x3840) (e := .bf16) (List.ofFn fun k : Fin 5 => ⟨Rect.unit (s := S1024x3840) (cOff k) S1024x768.size (cOff_inb k),
    k0_pay8 x0 x1 (View.ld x2 (Rect.unit (s := S1024x3840) (cOff k) S1024x768.size (cOff_inb k)))⟩)

def vOff (k : Fin 16) : Fin 3 → ℕ := ![(15 - k) / 4, 144 * ((15 - k) % 4), 0]
def oOff (k : Fin 16) : Fin 3 → ℕ := ![(15 - k) / 4, 144 * ((15 - k) % 4) + 128, 0]
theorem vOff_inb : ∀ k : Fin 16, ∀ a, vOff k a + S1x128x256.size a ≤ S4x576x256.size a := by decide +kernel
theorem oOff_inb : ∀ k : Fin 16, ∀ a, oOff k a + S1x16x256.size a ≤ S4x576x256.size a := by decide +kernel

def sOff (b : Fin 2) (k : Fin 16) : Fin 2 → ℕ := ![512 * b + 128 * ((15 - k) % 4), 256 * ((15 - k) / 4)]
theorem sOff_inb : ∀ (b : Fin 2) (k : Fin 16), S1152x1024.Slices (sOff b k) S128x256 := by decide +kernel

/-- The values of one group for one chunk of tokens. -/
def vTile (v : FVec Ideal S1152x1024 .bf16) (b : Fin 2) (k : Fin 16) : FVec Ideal S1x128x256 .bf16 :=
  shapeCast S1x128x256 (extractStridedSlice S128x256 (sOff b k) v (sOff_inb b k)) shapeCasts_S128x256_S1x128x256

/-- The second and third output blocks. -/
def valBlock (v : FVec Ideal S1152x1024 .bf16) (b : Fin 2) : Vec Ideal S4x576x256 .bf16 :=
  View.canon (Val := Elt Ideal) (s := S4x576x256) (e := .bf16) (List.ofFn fun k : Fin 16 =>
    [(⟨Rect.unit (s := S4x576x256) (oOff k) S1x16x256.size (oOff_inb k), (k0_pay15 : FVec Ideal S1x16x256 .bf16)⟩ : View.Piece (Elt Ideal) S4x576x256 .bf16),
     (⟨Rect.unit (s := S4x576x256) (vOff k) S1x128x256.size (vOff_inb k), vTile v b k⟩ : View.Piece (Elt Ideal) S4x576x256 .bf16)]).flatten

def vOff' (k : Fin 8) : Fin 3 → ℕ := ![7 - k, 0, 0]
def oOff' (k : Fin 8) : Fin 3 → ℕ := ![7 - k, 128, 0]
theorem vOff'_inb : ∀ k : Fin 8, ∀ a, vOff' k a + S1x128x128.size a ≤ S8x144x128.size a := by decide +kernel
theorem oOff'_inb : ∀ k : Fin 8, ∀ a, oOff' k a + S1x16x128.size a ≤ S8x144x128.size a := by decide +kernel

def sOff' (k : Fin 8) : Fin 2 → ℕ := ![1024, 128 * (7 - k)]
theorem sOff'_inb : ∀ k : Fin 8, S1152x1024.Slices (sOff' k) S128x128 := by decide +kernel

def vTile' (v : FVec Ideal S1152x1024 .bf16) (k : Fin 8) : FVec Ideal S1x128x128 .bf16 :=
  shapeCast S1x128x128 (extractStridedSlice S128x128 (sOff' k) v (sOff'_inb k)) shapeCasts_S128x128_S1x128x128

/-- The fourth output block. -/
def valBlock' (v : FVec Ideal S1152x1024 .bf16) : Vec Ideal S8x144x128 .bf16 :=
  View.canon (Val := Elt Ideal) (s := S8x144x128) (e := .bf16) (List.ofFn fun k : Fin 8 =>
    [(⟨Rect.unit (s := S8x144x128) (oOff' k) S1x16x128.size (oOff'_inb k), (k0_pay2 : FVec Ideal S1x16x128 .bf16)⟩ : View.Piece (Elt Ideal) S8x144x128 .bf16),
     (⟨Rect.unit (s := S8x144x128) (vOff' k) S1x128x128.size (vOff'_inb k), vTile' v k⟩ : View.Piece (Elt Ideal) S8x144x128 .bf16)]).flatten

variable (m : (ℓ : Loc nD τ sig) → Buf (Elt Ideal) ℓ) (c : Dev nD)

theorem ld0 (t : Fin cfg0.N) : View.readAt (Elt Ideal) (ms0_0 t).view (Rect.unit ![0, 0] S1024x1024.size inb_S1024x1024_S1024x1024_0_0).toLoadRect
    ((hs0_0 t).unread (iblk m c 0 t)) = iblk m c 0 t := by
  rw [View.readAt_eq_ld, Memref.IsWhole.read_unread]
  exact View.ld_unit_lit _ _ (by decide)

theorem ld1 (t : Fin cfg0.N) : View.readAt (Elt Ideal) (ms0_1 t).view (Rect.unit ![0, 0] S1x1024.size inb_S1x1024_S1x1024_0_0).toLoadRect
    ((hs0_1 t).unread (iblk m c 1 t)) = iblk m c 1 t := by
  rw [View.readAt_eq_ld, Memref.IsWhole.read_unread]
  exact View.ld_unit_lit _ _ (by decide)

theorem ld3 (t : Fin cfg0.N) : View.readAt (Elt Ideal) (ms0_3 t).view (Rect.unit ![0, 0] S1152x1024.size inb_S1152x1024_S1152x1024_0_0).toLoadRect
    ((hs0_3 t).unread (iblk m c 3 t)) = iblk m c 3 t := by
  rw [View.readAt_eq_ld, Memref.IsWhole.read_unread]
  exact View.ld_unit_lit _ _ (by decide)

theorem outs4_eq (t : Fin cfg0.N) : (outsAt0 m c t).1 = projBlock (iblk m c 0 t) (iblk m c 1 t) (iblk m c 2 t) := by
  unfold outsAt0
  dsimp only
  frame_out
  sl_kernel_rfl

theorem outs5_eq (t : Fin cfg0.N) : (outsAt0 m c t).2.1 = valBlock (k0_pay13 (k0_pay7 (iblk m c 0 t) (iblk m c 1 t)) (iblk m c 3 t)) 0 := by
  unfold outsAt0
  dsimp only
  refine Eq.trans ?_ (congrArg₂ (fun n w => valBlock (k0_pay13 n w) 0) (congrArg₂ k0_pay7 (ld0 m c t) (ld1 m c t)) (ld3 m c t))
  frame_open
  rw [View.read_writes_junk_eq_canon]
  sl_kernel_rfl

theorem outs6_eq (t : Fin cfg0.N) : (outsAt0 m c t).2.2.1 = valBlock (k0_pay13 (k0_pay7 (iblk m c 0 t) (iblk m c 1 t)) (iblk m c 3 t)) 1 := by
  unfold outsAt0
  dsimp only
  refine Eq.trans ?_ (congrArg₂ (fun n w => valBlock (k0_pay13 n w) 1) (congrArg₂ k0_pay7 (ld0 m c t) (ld1 m c t)) (ld3 m c t))
  frame_open
  rw [View.read_writes_junk_eq_canon]
  sl_kernel_rfl

theorem outs7_eq (t : Fin cfg0.N) : (outsAt0 m c t).2.2.2 = valBlock' (k0_pay13 (k0_pay7 (iblk m c 0 t) (iblk m c 1 t)) (iblk m c 3 t)) := by
  unfold outsAt0
  dsimp only
  refine Eq.trans ?_ (congrArg₂ (fun n w => valBlock' (k0_pay13 n w)) (congrArg₂ k0_pay7 (ld0 m c t) (ld1 m c t)) (ld3 m c t))
  frame_open
  rw [View.read_writes_junk_eq_canon]
  sl_kernel_rfl

/-! ## The blocks at an element -/

theorem pay7_at (x0 : Vec Ideal S1024x1024 .f32) (x1 : Vec Ideal S1x1024 .f32) (r j : Fin 1024) :
    k0_pay7 x0 x1 (ix2 r j) = normed (fun k => x0 (ix2 r k)) (fun k => x1 (ix2 0 k)) j := by
  generalize hR : normed (fun k => x0 (ix2 r k)) (fun k => x1 (ix2 0 k)) j = R
  pointwise [k0_pay7]
  exact hR

theorem pay8_at (x0 : Vec Ideal S1024x1024 .f32) (x1 : Vec Ideal S1x1024 .f32) (w : Vec Ideal S1024x768 .bf16) (r : Fin 1024) (j : Fin 768) :
    k0_pay8 x0 x1 w (ix2 r j) = ∑ k : Fin 1024, k0_pay7 x0 x1 (ix2 r k) * w (ix2 k j) := by
  unfold k0_pay8
  generalize k0_pay7 x0 x1 = A
  pointwise

theorem pay13_at (n : FVec Ideal S1024x1024 .bf16) (w : Vec Ideal S1152x1024 .bf16) (j : Fin 1152) (r : Fin 1024) :
    k0_pay13 n w (ix2 j r) = ∑ k : Fin 1024, w (ix2 j k) * n (ix2 r k) := by
  pointwise [k0_pay13]

theorem projBlock_at (x0 : Vec Ideal S1024x1024 .f32) (x1 : Vec Ideal S1x1024 .f32) (x2 : Vec Ideal S1024x3840 .bf16) (r : Fin 1024) (j : Fin 3840) :
    projBlock x0 x1 x2 (ix2 r j) = ∑ k : Fin 1024, normed (fun i => x0 (ix2 r i)) (fun i => x1 (ix2 0 i)) k * x2 (ix2 k j) := by
  refine View.canon_ofFn_unit_eq_of_forall (Val := Elt Ideal) (S := S1024x3840) (e := .bf16) cOff S1024x768.size cOff_inb _ _ _
    ⟨⟨4 - j / 768, by omega⟩, fun a => ?_⟩ fun k => ?_
  · fin_cases a
    · show 0 ≤ (r : ℕ) ∧ (r : ℕ) < 0 + 1024; omega
    · show 768 * (4 - (4 - (j : ℕ) / 768)) ≤ (j : ℕ) ∧ (j : ℕ) < 768 * (4 - (4 - (j : ℕ) / 768)) + 768; omega
  · intro z hz
    have hz0 : (r : ℕ) = 0 + z 0 := hz 0
    have hz1 : (j : ℕ) = 768 * (4 - (k : ℕ)) + z 1 := hz 1
    have b1 : (z 1 : ℕ) < 768 := (z 1).isLt
    obtain ⟨l, hl⟩ : ∃ l : Fin 768, (z 1 : ℕ) = l := ⟨⟨z 1, b1⟩, rfl⟩
    have hzz : z = ix2 r l := by
      funext a
      fin_cases a
      · exact Fin.ext (by show (z 0 : ℕ) = r; omega)
      · exact Fin.ext hl
    rw [hzz]
    refine (pay8_at _ _ _ r l).trans ?_
    have e1 : ∀ i, View.ld x2 (Rect.unit (s := S1024x3840) (cOff k) S1024x768.size (cOff_inb k)) (ix2 i l) = x2 (ix2 i j) := fun i =>
      View.ld_unit_apply_of x2 _ _ _ _ _ fun a => by
        fin_cases a
        · exact (Nat.zero_add _).symm
        · show (j : ℕ) = 768 * (4 - (k : ℕ)) + l; omega
    simp only [e1, pay7_at]

theorem ones_at (l : Fin 16) (i : Fin 256) : (k0_pay15 : FVec Ideal S1x16x256 .bf16) (ix3 0 l i) = (1 : EReal) := by
  pointwise [k0_pay15]

theorem ones'_at (l : Fin 16) (i : Fin 128) : (k0_pay2 : FVec Ideal S1x16x128 .bf16) (ix3 0 l i) = (1 : EReal) := by
  pointwise [k0_pay2]

theorem vTile_at (v : FVec Ideal S1152x1024 .bf16) (b : Fin 2) (k : Fin 16) (l : Fin 128) (i : Fin 256) :
    vTile v b k (ix3 0 l i) = v (ix2 ⟨512 * b + 128 * ((15 - k) % 4) + l, by omega⟩ ⟨256 * ((15 - k) / 4) + i, by omega⟩) := by
  pointwise [vTile, sOff]

theorem vTile'_at (v : FVec Ideal S1152x1024 .bf16) (k : Fin 8) (l : Fin 128) (i : Fin 128) :
    vTile' v k (ix3 0 l i) = v (ix2 ⟨1024 + l, by omega⟩ ⟨128 * (7 - k) + i, by omega⟩) := by
  pointwise [vTile', sOff']

end Cert.Kernel5Ideal.Inproj

end
-- ==== Proof.InprojArray.lean ====
/- The input projection: what the kernel finds in its blocks, what a point leaves, and the four arrays it leaves at the end. -/
module

public import proofs.«01_k».proof.Proof.InprojPieces
public import Idealize.ShloMosaic.Lib.Pipeline.ValueKit
public import Idealize.ShloMosaic.Lib.Pointwise
public import Idealize.ShloMosaic.Lib.Claim

@[expose] public section

set_option maxRecDepth 16384

noncomputable section

namespace Cert.Inproj

open Idealize.ShloMosaic

/-- The projection of the normed rows. -/
def proj (X0 : (⟨2, ![65536, 1024]⟩ : Shape).Idx → EReal) (X1 : (⟨1, ![1024]⟩ : Shape).Idx → EReal) (X2 : (⟨2, ![1024, 3840]⟩ : Shape).Idx → EReal)
    (r : Fin 65536) (j : Fin 3840) : EReal :=
  ∑ k : Fin 1024, Cert.Ffn.normed (fun i => X0 (ix2 r i)) (fun i => X1 (ix1 i)) k * X2 (ix2 k j)

/-- Four groups of value columns from `lo`, for 256 tokens at a time with the tokens innermost, and rows of ones below each group. -/
def vals (X0 : (⟨2, ![65536, 1024]⟩ : Shape).Idx → EReal) (X1 : (⟨1, ![1024]⟩ : Shape).Idx → EReal) (X2 : (⟨2, ![1024, 3840]⟩ : Shape).Idx → EReal)
    (lo : ℕ) (hlo : lo + 512 ≤ 3840) (a : Fin 256) (r : Fin 576) (q : Fin 256) : EReal :=
  if h : (r : ℕ) % 144 < 128 then proj X0 X1 X2 ⟨256 * a + q, by omega⟩ ⟨lo + (128 * ((r : ℕ) / 144) + (r : ℕ) % 144), by omega⟩ else 1

/-- The one group of the third mixer, for 128 tokens at a time. -/
def vals' (X0 : (⟨2, ![65536, 1024]⟩ : Shape).Idx → EReal) (X1 : (⟨1, ![1024]⟩ : Shape).Idx → EReal) (X2 : (⟨2, ![1024, 3840]⟩ : Shape).Idx → EReal)
    (a : Fin 512) (r : Fin 144) (q : Fin 128) : EReal :=
  if h : (r : ℕ) < 128 then proj X0 X1 X2 ⟨128 * a + q, by omega⟩ ⟨3712 + r, by omega⟩ else 1

theorem vals_at (X0 : (⟨2, ![65536, 1024]⟩ : Shape).Idx → EReal) (X1 : (⟨1, ![1024]⟩ : Shape).Idx → EReal) (X2 : (⟨2, ![1024, 3840]⟩ : Shape).Idx → EReal)
    (lo : ℕ) (hlo : lo + 512 ≤ 3840) (a : Fin 256) (p : Fin 4) (l : Fin 144) (q : Fin 256) :
    vals X0 X1 X2 lo hlo a ⟨144 * p + l, by omega⟩ q
      = if h : (l : ℕ) < 128 then proj X0 X1 X2 ⟨256 * a + q, by omega⟩ ⟨lo + (128 * p + l), by omega⟩ else 1 := by
  have e1 : (144 * (p : ℕ) + l) % 144 = l := by omega
  have e2 : (144 * (p : ℕ) + l) / 144 = p := by omega
  unfold vals
  simp only [e1, e2]

end Cert.Inproj

namespace Cert.Kernel5Ideal.Inproj

open Cert.Ffn Cert.Inproj Cert.Kernel5Ideal Cert.Kernel5Ideal.Gen Idealize.ShloMosaic Idealize.ShloMosaic.TcCoe Idealize.SL.Sem

/-! ## The blocks of values at an element -/

theorem valBlock_at (v : FVec Ideal S1152x1024 .bf16) (b : Fin 2) (a p : Fin 4) (l : Fin 144) (q : Fin 256) :
    valBlock v b (ix3 a ⟨144 * p + l, by omega⟩ q)
      = if h : (l : ℕ) < 128 then v (ix2 ⟨512 * b + 128 * p + l, by omega⟩ ⟨256 * a + q, by omega⟩) else (1 : EReal) := by
  refine View.canon_eq_of_allAt (Val := Elt Ideal) (S := S4x576x256) (e := .bf16) _ _ _ ?_ ?_
  · have ek : 15 - (15 - (4 * (a : ℕ) + p)) = 4 * a + p := by omega
    by_cases h : (l : ℕ) < 128
    · refine ⟨_, List.mem_flatten.mpr ⟨_, List.mem_ofFn.mpr ⟨⟨15 - (4 * a + p), by omega⟩, rfl⟩, List.mem_cons_of_mem _ List.mem_cons_self⟩, ?_⟩
      rw [Rect.mem_set_unit]
      intro x
      fin_cases x
      · show (15 - (15 - (4 * (a : ℕ) + p))) / 4 ≤ (a : ℕ) ∧ (a : ℕ) < (15 - (15 - (4 * (a : ℕ) + p))) / 4 + 1; omega
      · show 144 * ((15 - (15 - (4 * (a : ℕ) + p))) % 4) ≤ 144 * (p : ℕ) + l ∧ 144 * (p : ℕ) + l < 144 * ((15 - (15 - (4 * (a : ℕ) + p))) % 4) + 128; omega
      · show 0 ≤ (q : ℕ) ∧ (q : ℕ) < 0 + 256; omega
    · refine ⟨_, List.mem_flatten.mpr ⟨_, List.mem_ofFn.mpr ⟨⟨15 - (4 * a + p), by omega⟩, rfl⟩, List.mem_cons_self⟩, ?_⟩
      rw [Rect.mem_set_unit]
      intro x
      fin_cases x
      · show (15 - (15 - (4 * (a : ℕ) + p))) / 4 ≤ (a : ℕ) ∧ (a : ℕ) < (15 - (15 - (4 * (a : ℕ) + p))) / 4 + 1; omega
      · show 144 * ((15 - (15 - (4 * (a : ℕ) + p))) % 4) + 128 ≤ 144 * (p : ℕ) + l ∧ 144 * (p : ℕ) + l < 144 * ((15 - (15 - (4 * (a : ℕ) + p))) % 4) + 128 + 16; omega
      · show 0 ≤ (q : ℕ) ∧ (q : ℕ) < 0 + 256; omega
  · intro pc hpc
    obtain ⟨L, hL, hpL⟩ := List.mem_flatten.mp hpc
    obtain ⟨k, rfl⟩ := List.mem_ofFn.mp hL
    rcases List.mem_cons.mp hpL with rfl | hpL'
    · intro z hz
      have hc : ∀ x, ((ix3 a (⟨144 * p + l, by omega⟩ : Fin 576) q : S4x576x256.Idx) x : ℕ) = oOff k x + z x := fun x => by
        rw [← hz, Rect.emb_apply]; show oOff k x + 1 * (z x : ℕ) = _; omega
      have h0 : (a : ℕ) = (15 - k) / 4 + z 0 := hc 0
      have h1 : 144 * (p : ℕ) + l = 144 * ((15 - k) % 4) + 128 + z 1 := hc 1
      have h2 : (q : ℕ) = 0 + z 2 := hc 2
      have b0 : (z 0 : ℕ) < 1 := (z 0).isLt
      have b1 : (z 1 : ℕ) < 16 := (z 1).isLt
      have hl : ¬ (l : ℕ) < 128 := by omega
      rw [dif_neg hl]
      have hzz : z = ix3 0 (⟨z 1, b1⟩ : Fin 16) q := by
        funext x
        fin_cases x
        · exact Fin.ext (by show (z 0 : ℕ) = 0; omega)
        · rfl
        · exact Fin.ext (by show (z 2 : ℕ) = q; omega)
      rw [hzz]
      exact ones_at ⟨z 1, b1⟩ q
    · obtain rfl := List.mem_singleton.mp hpL'
      intro z hz
      have hc : ∀ x, ((ix3 a (⟨144 * p + l, by omega⟩ : Fin 576) q : S4x576x256.Idx) x : ℕ) = vOff k x + z x := fun x => by
        rw [← hz, Rect.emb_apply]; show vOff k x + 1 * (z x : ℕ) = _; omega
      have h0 : (a : ℕ) = (15 - k) / 4 + z 0 := hc 0
      have h1 : 144 * (p : ℕ) + l = 144 * ((15 - k) % 4) + z 1 := hc 1
      have h2 : (q : ℕ) = 0 + z 2 := hc 2
      have b0 : (z 0 : ℕ) < 1 := (z 0).isLt
      have b1 : (z 1 : ℕ) < 128 := (z 1).isLt
      have hl : (l : ℕ) < 128 := by omega
      rw [dif_pos hl]
      have hzz : z = ix3 0 (⟨z 1, b1⟩ : Fin 128) q := by
        funext x
        fin_cases x
        · exact Fin.ext (by show (z 0 : ℕ) = 0; omega)
        · rfl
        · exact Fin.ext (by show (z 2 : ℕ) = q; omega)
      rw [hzz]
      refine (vTile_at v b k _ q).trans (congrArg₂ (fun x y => v (ix2 x y)) (Fin.ext ?_) (Fin.ext ?_))
      · show 512 * (b : ℕ) + 128 * ((15 - k) % 4) + z 1 = 512 * b + 128 * p + l; omega
      · show 256 * ((15 - (k : ℕ)) / 4) + q = 256 * a + q; omega

theorem valBlock'_at (v : FVec Ideal S1152x1024 .bf16) (a : Fin 8) (l : Fin 144) (q : Fin 128) :
    valBlock' v (ix3 a l q) = if h : (l : ℕ) < 128 then v (ix2 ⟨1024 + l, by omega⟩ ⟨128 * a + q, by omega⟩) else (1 : EReal) := by
  refine View.canon_eq_of_allAt (Val := Elt Ideal) (S := S8x144x128) (e := .bf16) _ _ _ ?_ ?_
  · by_cases h : (l : ℕ) < 128
    · refine ⟨_, List.mem_flatten.mpr ⟨_, List.mem_ofFn.mpr ⟨⟨7 - a, by omega⟩, rfl⟩, List.mem_cons_of_mem _ List.mem_cons_self⟩, ?_⟩
      rw [Rect.mem_set_unit]
      intro x
      fin_cases x
      · show 7 - (7 - (a : ℕ)) ≤ (a : ℕ) ∧ (a : ℕ) < 7 - (7 - (a : ℕ)) + 1; omega
      · show 0 ≤ (l : ℕ) ∧ (l : ℕ) < 0 + 128; omega
      · show 0 ≤ (q : ℕ) ∧ (q : ℕ) < 0 + 128; omega
    · refine ⟨_, List.mem_flatten.mpr ⟨_, List.mem_ofFn.mpr ⟨⟨7 - a, by omega⟩, rfl⟩, List.mem_cons_self⟩, ?_⟩
      rw [Rect.mem_set_unit]
      intro x
      fin_cases x
      · show 7 - (7 - (a : ℕ)) ≤ (a : ℕ) ∧ (a : ℕ) < 7 - (7 - (a : ℕ)) + 1; omega
      · show 128 ≤ (l : ℕ) ∧ (l : ℕ) < 128 + 16; omega
      · show 0 ≤ (q : ℕ) ∧ (q : ℕ) < 0 + 128; omega
  · intro pc hpc
    obtain ⟨L, hL, hpL⟩ := List.mem_flatten.mp hpc
    obtain ⟨k, rfl⟩ := List.mem_ofFn.mp hL
    rcases List.mem_cons.mp hpL with rfl | hpL'
    · intro z hz
      have hc : ∀ x, ((ix3 a l q : S8x144x128.Idx) x : ℕ) = oOff' k x + z x := fun x => by
        rw [← hz, Rect.emb_apply]; show oOff' k x + 1 * (z x : ℕ) = _; omega
      have h1 : (l : ℕ) = 128 + z 1 := hc 1
      have h2 : (q : ℕ) = 0 + z 2 := hc 2
      have b0 : (z 0 : ℕ) < 1 := (z 0).isLt
      have b1 : (z 1 : ℕ) < 16 := (z 1).isLt
      have hl : ¬ (l : ℕ) < 128 := by omega
      rw [dif_neg hl]
      have hzz : z = ix3 0 (⟨z 1, b1⟩ : Fin 16) q := by
        funext x
        fin_cases x
        · exact Fin.ext (by show (z 0 : ℕ) = 0; omega)
        · rfl
        · exact Fin.ext (by show (z 2 : ℕ) = q; omega)
      rw [hzz]
      exact ones'_at ⟨z 1, b1⟩ q
    · obtain rfl := List.mem_singleton.mp hpL'
      intro z hz
      have hc : ∀ x, ((ix3 a l q : S8x144x128.Idx) x : ℕ) = vOff' k x + z x := fun x => by
        rw [← hz, Rect.emb_apply]; show vOff' k x + 1 * (z x : ℕ) = _; omega
      have h0 : (a : ℕ) = 7 - k + z 0 := hc 0
      have h1 : (l : ℕ) = 0 + z 1 := hc 1
      have h2 : (q : ℕ) = 0 + z 2 := hc 2
      have b0 : (z 0 : ℕ) < 1 := (z 0).isLt
      have b1 : (z 1 : ℕ) < 128 := (z 1).isLt
      have hl : (l : ℕ) < 128 := by omega
      rw [dif_pos hl]
      have hzz : z = ix3 0 (⟨z 1, b1⟩ : Fin 128) q := by
        funext x
        fin_cases x
        · exact Fin.ext (by show (z 0 : ℕ) = 0; omega)
        · rfl
        · exact Fin.ext (by show (z 2 : ℕ) = q; omega)
      rw [hzz]
      refine (vTile'_at v k _ q).trans (congrArg₂ (fun x y => v (ix2 x y)) (Fin.ext ?_) (Fin.ext ?_))
      · show 1024 + (z 1 : ℕ) = 1024 + l; omega
      · show 128 * (7 - (k : ℕ)) + q = 128 * a + q; omega

variable (m : (ℓ : Loc nD τ sig) → Buf (Elt Ideal) ℓ) (c : Dev nD)

/-! ## The host's operations -/

theorem v0_at (a : Fin 1024) (j : Fin 3840) : V m c main_v0 (ix2 a j) = m ((c : Thread nD τ).loc main_arg2) (ix2 a j) := by
  simp only [V, hostOps0, List.flatten_cons, List.flatten_nil, List.append_nil, List.cons_append, List.nil_append]
  entry_read
  pointwise

theorem v6_at (j : Fin 1024) : V m c main_v6 (ix2 0 j) = m ((c : Thread nD τ).loc main_arg1) (ix1 j) := by
  simp only [V, hostOps0, List.flatten_cons, List.flatten_nil, List.append_nil, List.cons_append, List.nil_append]
  entry_read
  pointwise

/-- The value columns of the weights, side by side and transposed. -/
def wv (A : FVec Ideal S1024x3840 .f32) : FVec Ideal S1152x1024 .bf16 :=
  transpose S1152x1024 [1, 0] (concatenate S1024x1152 1 [⟨S1024x512, (extractStridedSlice S1024x512 ![0, 1024] (truncf .bf16 A bitsLt_bf16_f32) slices_S1024x3840_S1024x512_0_1024 : (⟨S1024x512, .bf16⟩ : BufTy).Contents (Elt Ideal))⟩, ⟨S1024x512, (extractStridedSlice S1024x512 ![0, 2560] (truncf .bf16 A bitsLt_bf16_f32) slices_S1024x3840_S1024x512_0_2560 : (⟨S1024x512, .bf16⟩ : BufTy).Contents (Elt Ideal))⟩, ⟨S1024x128, (extractStridedSlice S1024x128 ![0, 3712] (truncf .bf16 A bitsLt_bf16_f32) slices_S1024x3840_S1024x128_0_3712 : (⟨S1024x128, .bf16⟩ : BufTy).Contents (Elt Ideal))⟩] concatenates_S1024x512_S1024x512_S1024x128_S1024x1152_d1) transposes_S1024x1152_S1152x1024_1_0

theorem v5_eq : V m c main_v5 = wv (m ((c : Thread nD τ).loc main_arg2)) := by
  rfl

theorem wva_at (A : FVec Ideal S1024x3840 .f32) (j : Fin 512) (k : Fin 1024) : wv A (ix2 ⟨j, by omega⟩ k) = A (ix2 k ⟨1024 + j, by omega⟩) := by
  pointwise [wv]
theorem wvb_at (A : FVec Ideal S1024x3840 .f32) (j : Fin 512) (k : Fin 1024) : wv A (ix2 ⟨512 + j, by omega⟩ k) = A (ix2 k ⟨2560 + j, by omega⟩) := by
  pointwise [wv]
theorem wvc_at (A : FVec Ideal S1024x3840 .f32) (j : Fin 128) (k : Fin 1024) : wv A (ix2 ⟨1024 + j, by omega⟩ k) = A (ix2 k ⟨3712 + j, by omega⟩) := by
  pointwise [wv]
  rw [dif_neg (by omega), dif_neg (by omega)]
  exact congrArg (fun x => A (ix2 k x)) (Fin.ext (by show 3712 + (1024 + (j : ℕ) - 512 - 512) = 3712 + j; omega))
theorem v5a_at (j : Fin 512) (k : Fin 1024) : V m c main_v5 (ix2 ⟨j, by omega⟩ k) = m ((c : Thread nD τ).loc main_arg2) (ix2 k ⟨1024 + j, by omega⟩) :=
  (congrFun (v5_eq m c) _).trans (wva_at _ j k)
theorem v5b_at (j : Fin 512) (k : Fin 1024) : V m c main_v5 (ix2 ⟨512 + j, by omega⟩ k) = m ((c : Thread nD τ).loc main_arg2) (ix2 k ⟨2560 + j, by omega⟩) :=
  (congrFun (v5_eq m c) _).trans (wvb_at _ j k)
theorem v5c_at (j : Fin 128) (k : Fin 1024) : V m c main_v5 (ix2 ⟨1024 + j, by omega⟩ k) = m ((c : Thread nD τ).loc main_arg2) (ix2 k ⟨3712 + j, by omega⟩) :=
  (congrFun (v5_eq m c) _).trans (wvc_at _ j k)

theorem varg_at (i : S65536x1024.Idx) : V m c main_arg0 i = m ((c : Thread nD τ).loc main_arg0) i := by
  simp only [V, hostOps0, List.flatten_cons, List.flatten_nil, List.append_nil, List.cons_append, List.nil_append]
  entry_read
  rfl

/-! ## The blocks -/

theorem idx0 : ∀ t : Fin cfg0.N, win0_0.index t 0 = t.val ∧ win0_0.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 ∧ win0_5.index t 2 = 0 := (by decide +kernel : ∀ t : Fin grid0.N, _)
theorem idx6 : ∀ t : Fin cfg0.N, win0_6.index t 0 = t.val ∧ win0_6.index t 1 = 0 ∧ win0_6.index t 2 = 0 := (by decide +kernel : ∀ t : Fin grid0.N, _)
theorem idx7 : ∀ t : Fin cfg0.N, win0_7.index t 0 = t.val ∧ win0_7.index t 1 = 0 ∧ win0_7.index t 2 = 0 := (by decide +kernel : ∀ t : Fin grid0.N, _)
theorem tN (t : Fin cfg0.N) : t.val < 64 := t.isLt

theorem x0_at (t : Fin cfg0.N) (a : Fin 1024) (j : Fin 1024) :
    iblk m c 0 t (ix2 a j) = m ((c : Thread nD τ).loc main_arg0) (ix2 ⟨1024 * t.val + a, by have := tN t; omega⟩ j) := by
  refine Eq.trans ?_ (varg_at m c _)
  have h := idx0 t
  blk_simp [iblk]
  refine congrArg _ (funext fun b => Fin.ext ?_)
  blk_simp []
  fin_cases b
  · simp [h.1]; omega
  · simp [h.2]

theorem idx1 : ∀ t : Fin cfg0.N, ∀ a, win0_1.index t a = 0 := (by decide +kernel : ∀ t : Fin grid0.N, ∀ a, win0_1.index t a = 0)

theorem x1_at (t : Fin cfg0.N) (j : Fin 1024) : iblk m c 1 t (ix2 0 j) = m ((c : Thread nD τ).loc main_arg1) (ix1 j) := by
  refine Eq.trans ?_ (v6_at m c j)
  have hemb : ∀ b, (((((cfg0.win 1).blk t).view.emb ((ix2 0 j) : S1x1024.Idx)) b : Fin _) : ℕ) = (((ix2 0 j) : S1x1024.Idx) b : ℕ) := by
    intro b
    refine Eq.trans (b := win0_1.index t b * S1x1024.size b + (((ix2 0 j) : S1x1024.Idx) b : ℕ)) (ValueKit.view_emb_slice_whole_unit_val ..) ?_
    rw [idx1 t b, Nat.zero_mul, Nat.zero_add]
  unfold iblk
  generalize V m c = G
  rw [View.read_apply]
  refine (cast_eq _ _).trans ?_
  exact congrArg (G main_v6) (funext fun b => Fin.ext (hemb b))

theorem idx2 : ∀ t : Fin cfg0.N, ∀ a, win0_2.index t a = 0 := (by decide +kernel : ∀ t : Fin grid0.N, ∀ a, win0_2.index t a = 0)

theorem x2_at (t : Fin cfg0.N) (k : Fin 1024) (j : Fin 3840) : iblk m c 2 t (ix2 k j) = m ((c : Thread nD τ).loc main_arg2) (ix2 k j) := by
  refine Eq.trans ?_ (v0_at m c k j)
  have hemb : ∀ b, (((((cfg0.win 2).blk t).view.emb ((ix2 k j) : S1024x3840.Idx)) b : Fin _) : ℕ) = (((ix2 k j) : S1024x3840.Idx) b : ℕ) := by
    intro b
    refine Eq.trans (b := win0_2.index t b * S1024x3840.size b + (((ix2 k j) : S1024x3840.Idx) b : ℕ)) (ValueKit.view_emb_slice_whole_unit_val ..) ?_
    rw [idx2 t b, Nat.zero_mul, Nat.zero_add]
  unfold iblk
  generalize V m c = G
  rw [View.read_apply]
  refine (cast_eq _ _).trans ?_
  exact congrArg (G main_v0) (funext fun b => Fin.ext (hemb b))

theorem idx3 : ∀ t : Fin cfg0.N, ∀ a, win0_3.index t a = 0 := (by decide +kernel : ∀ t : Fin grid0.N, ∀ a, win0_3.index t a = 0)

theorem x3_at (t : Fin cfg0.N) (j : Fin 1152) (k : Fin 1024) : iblk m c 3 t (ix2 j k) = V m c main_v5 (ix2 j k) := by
  have hemb : ∀ b, (((((cfg0.win 3).blk t).view.emb ((ix2 j k) : S1152x1024.Idx)) b : Fin _) : ℕ) = (((ix2 j k) : S1152x1024.Idx) b : ℕ) := by
    intro b
    refine Eq.trans (b := win0_3.index t b * S1152x1024.size b + (((ix2 j k) : S1152x1024.Idx) b : ℕ)) (ValueKit.view_emb_slice_whole_unit_val ..) ?_
    rw [idx3 t b, Nat.zero_mul, Nat.zero_add]
  unfold iblk
  generalize V m c = G
  rw [View.read_apply]
  refine (cast_eq _ _).trans ?_
  exact congrArg (G main_v5) (funext fun b => Fin.ext (hemb b))

theorem x3a_at (t : Fin cfg0.N) (j : Fin 512) (k : Fin 1024) : iblk m c 3 t (ix2 ⟨j, by omega⟩ k) = m ((c : Thread nD τ).loc main_arg2) (ix2 k ⟨1024 + j, by omega⟩) :=
  (x3_at m c t _ k).trans (v5a_at m c j k)
theorem x3b_at (t : Fin cfg0.N) (j : Fin 512) (k : Fin 1024) : iblk m c 3 t (ix2 ⟨512 + j, by omega⟩ k) = m ((c : Thread nD τ).loc main_arg2) (ix2 k ⟨2560 + j, by omega⟩) :=
  (x3_at m c t _ k).trans (v5b_at m c j k)
theorem x3c_at (t : Fin cfg0.N) (j : Fin 128) (k : Fin 1024) : iblk m c 3 t (ix2 ⟨1024 + j, by omega⟩ k) = m ((c : Thread nD τ).loc main_arg2) (ix2 k ⟨3712 + j, by omega⟩) :=
  (x3_at m c t _ k).trans (v5c_at m c j k)

/-! ## The outputs -/

/-- The values of one row of the transposed weights, at a point's tokens. -/
theorem vt_at (t : Fin cfg0.N) (j : Fin 1152) (col : Fin 3840) (hj : ∀ k : Fin 1024, iblk m c 3 t (ix2 j k) = m ((c : Thread nD τ).loc main_arg2) (ix2 k col)) (i : Fin 1024) :
    k0_pay13 (k0_pay7 (iblk m c 0 t) (iblk m c 1 t)) (iblk m c 3 t) (ix2 j i)
      = proj (m ((c : Thread nD τ).loc main_arg0)) (m ((c : Thread nD τ).loc main_arg1)) (m ((c : Thread nD τ).loc main_arg2)) ⟨1024 * t.val + i, by have := tN t; omega⟩ col := by
  refine (pay13_at _ _ j i).trans ?_
  unfold proj
  refine Finset.sum_congr rfl fun k _ => ?_
  rw [hj k, pay7_at, mul_comm]
  simp only [x0_at, x1_at]

theorem outs4_at (t : Fin cfg0.N) (a : Fin 1024) (j : Fin 3840) :
    (outsAt0 m c t).1 (ix2 a j) = proj (m ((c : Thread nD τ).loc main_arg0)) (m ((c : Thread nD τ).loc main_arg1)) (m ((c : Thread nD τ).loc main_arg2)) ⟨1024 * t.val + a, by have := tN t; omega⟩ j := by
  rw [outs4_eq]
  refine (projBlock_at _ _ _ a j).trans ?_
  simp only [x0_at, x1_at, x2_at]
  rfl

theorem outs5_at (t : Fin cfg0.N) (a p : Fin 4) (l : Fin 144) (q : Fin 256) :
    (outsAt0 m c t).2.1 (ix3 a ⟨144 * p + l, by omega⟩ q) = vals (m ((c : Thread nD τ).loc main_arg0)) (m ((c : Thread nD τ).loc main_arg1)) (m ((c : Thread nD τ).loc main_arg2))
      1024 (by decide) ⟨4 * t.val + a, by have := tN t; omega⟩ ⟨144 * p + l, by omega⟩ q := by
  rw [outs5_eq, vals_at]
  refine (valBlock_at _ 0 a p l q).trans ?_
  refine dite_congr rfl (fun h => ?_) fun _ => rfl
  refine (vt_at m c t _ ⟨1024 + (128 * p + l), by omega⟩ (fun k => ?_) _).trans (congrArg₂ _ (Fin.ext ?_) rfl)
  · refine Eq.trans (congrArg (iblk m c 3 t) (congrArg (fun x => ix2 x k) (Fin.ext ?_))) (x3a_at m c t ⟨128 * p + l, by omega⟩ k)
    show 512 * 0 + 128 * (p : ℕ) + l = 128 * p + l; omega
  · show 1024 * t.val + (256 * (a : ℕ) + q) = 256 * (4 * t.val + a) + q; omega

theorem outs6_at (t : Fin cfg0.N) (a p : Fin 4) (l : Fin 144) (q : Fin 256) :
    (outsAt0 m c t).2.2.1 (ix3 a ⟨144 * p + l, by omega⟩ q) = vals (m ((c : Thread nD τ).loc main_arg0)) (m ((c : Thread nD τ).loc main_arg1)) (m ((c : Thread nD τ).loc main_arg2))
      2560 (by decide) ⟨4 * t.val + a, by have := tN t; omega⟩ ⟨144 * p + l, by omega⟩ q := by
  rw [outs6_eq, vals_at]
  refine (valBlock_at _ 1 a p l q).trans ?_
  refine dite_congr rfl (fun h => ?_) fun _ => rfl
  refine (vt_at m c t _ ⟨2560 + (128 * p + l), by omega⟩ (fun k => ?_) _).trans (congrArg₂ _ (Fin.ext ?_) rfl)
  · refine Eq.trans (congrArg (iblk m c 3 t) (congrArg (fun x => ix2 x k) (Fin.ext ?_))) (x3b_at m c t ⟨128 * p + l, by omega⟩ k)
    show 512 * 1 + 128 * (p : ℕ) + l = 512 + (128 * p + l); omega
  · show 1024 * t.val + (256 * (a : ℕ) + q) = 256 * (4 * t.val + a) + q; omega

theorem outs7_at (t : Fin cfg0.N) (a : Fin 8) (l : Fin 144) (q : Fin 128) :
    (outsAt0 m c t).2.2.2 (ix3 a l q) = vals' (m ((c : Thread nD τ).loc main_arg0)) (m ((c : Thread nD τ).loc main_arg1)) (m ((c : Thread nD τ).loc main_arg2))
      ⟨8 * t.val + a, by have := tN t; omega⟩ l q := by
  rw [outs7_eq]
  unfold vals'
  refine (valBlock'_at _ a l q).trans ?_
  refine dite_congr rfl (fun h => ?_) fun _ => rfl
  refine (vt_at m c t _ ⟨3712 + l, by omega⟩ (fun k => x3c_at m c t ⟨l, h⟩ k) _).trans (congrArg₂ _ (Fin.ext ?_) rfl)
  show 1024 * t.val + (128 * (a : ℕ) + q) = 128 * (8 * t.val + a) + q; omega

theorem final4 : (dats m 0 c).arrAt 4 cfg0.N
    = fun i : (⟨2, ![65536, 3840]⟩ : Shape).Idx => proj (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp []
  rw [after0_4]
  have h := idx4 t
  have hy : y = ix2 (y 0) (y 1) := by funext a; fin_cases a <;> rfl
  rw [hy]
  refine (outs4_at m c t (y 0) (y 1)).trans ?_
  refine congrArg₂ _ (Fin.ext ?_) (Fin.ext ?_)
  · blk_simp []; simp [h.1]; omega
  · blk_simp []; simp [h.2]

/-- A row of the four groups is one row of one group. -/
theorem row_split (y : S4x576x256.Idx) : ∃ (a p : Fin 4) (l : Fin 144) (q : Fin 256), y = ix3 a ⟨144 * p + l, by omega⟩ q := by
  have b : (y 1 : ℕ) < 576 := (y 1).isLt
  refine ⟨y 0, ⟨(y 1 : ℕ) / 144, by omega⟩, ⟨(y 1 : ℕ) % 144, by omega⟩, y 2, ?_⟩
  funext x
  fin_cases x
  · rfl
  · exact Fin.ext (by show (y 1 : ℕ) = 144 * ((y 1 : ℕ) / 144) + (y 1 : ℕ) % 144; omega)
  · rfl

theorem final5 : (dats m 0 c).arrAt 5 cfg0.N
    = fun i : (⟨3, ![256, 576, 256]⟩ : Shape).Idx => vals (m ((c : Thread nD τ).loc main_arg0)) (m ((c : Thread nD τ).loc main_arg1)) (m ((c : Thread nD τ).loc main_arg2)) 1024 (by decide) (i 0) (i 1) (i 2) := by
  refine (dats m 0 c).arrAt_eq_of_covers 5 _ (by decide +kernel) fun t hf y => ?_
  blk_simp []
  rw [after0_5]
  have h := idx5 t
  obtain ⟨a, p, l, q, rfl⟩ := row_split y
  refine (outs5_at m c t a p l q).trans ?_
  refine congr (congrArg₂ _ (Fin.ext ?_) (Fin.ext ?_)) (Fin.ext ?_)
  · blk_simp []; simp [h.1]; omega
  · blk_simp []; simp [h.2.1]
  · blk_simp []; simp [h.2.2]

theorem final6 : (dats m 0 c).arrAt 6 cfg0.N
    = fun i : (⟨3, ![256, 576, 256]⟩ : Shape).Idx => vals (m ((c : Thread nD τ).loc main_arg0)) (m ((c : Thread nD τ).loc main_arg1)) (m ((c : Thread nD τ).loc main_arg2)) 2560 (by decide) (i 0) (i 1) (i 2) := by
  refine (dats m 0 c).arrAt_eq_of_covers 6 _ (by decide +kernel) fun t hf y => ?_
  blk_simp []
  rw [after0_6]
  have h := idx6 t
  obtain ⟨a, p, l, q, rfl⟩ := row_split y
  refine (outs6_at m c t a p l q).trans ?_
  refine congr (congrArg₂ _ (Fin.ext ?_) (Fin.ext ?_)) (Fin.ext ?_)
  · blk_simp []; simp [h.1]; omega
  · blk_simp []; simp [h.2.1]
  · blk_simp []; simp [h.2.2]

theorem final7 : (dats m 0 c).arrAt 7 cfg0.N
    = fun i : (⟨3, ![512, 144, 128]⟩ : Shape).Idx => vals' (m ((c : Thread nD τ).loc main_arg0)) (m ((c : Thread nD τ).loc main_arg1)) (m ((c : Thread nD τ).loc main_arg2)) (i 0) (i 1) (i 2) := by
  refine (dats m 0 c).arrAt_eq_of_covers 7 _ (by decide +kernel) fun t hf y => ?_
  blk_simp []
  rw [after0_7]
  have h := idx7 t
  have hy : y = ix3 (y 0) (y 1) (y 2) := by funext a; fin_cases a <;> rfl
  rw [hy]
  refine (outs7_at m c t (y 0) (y 1) (y 2)).trans ?_
  refine congr (congrArg₂ _ (Fin.ext ?_) (Fin.ext ?_)) (Fin.ext ?_)
  · blk_simp []; simp [h.1]; omega
  · blk_simp []; simp [h.2.1]
  · blk_simp []; simp [h.2.2]

end Cert.Kernel5Ideal.Inproj

end
-- ==== Proof.Inproj.lean ====
/- The input projection: the reference's four results are the kernel's, and the claims. -/
module

public import proofs.«01_k».proof.Defs
public import proofs.«01_k».proof.Proof.InprojArray
public import proofs.«01_k».proof.Proof.FfnRef
public import proofs.«01_k».proof.Proof.Gen.Kernel5
public import proofs.«01_k».proof.Proof.Gen.Kernel5.Frame
public import proofs.«01_k».proof.Proof.Gen.Reference5Ideal.Run
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Reference5Ideal.Inproj

open Cert.Ffn Cert.Inproj Cert.Reference5Ideal Cert.Reference5Ideal.Gen Idealize.ShloMosaic Idealize.ShloMosaic.TcCoe Idealize.SL.Sem

/-- The product of the normed rows with the weights. -/
def prod (n : FVec Ideal S65536x1024 .f32) (w : FVec Ideal S1024x3840 .f32) : FVec Ideal S65536x3840 .f32 :=
  Host.dotGeneral dot_S65536x1024_S1024x3840_S65536x3840_1_0_0_1_n_n none n w

/-- The first mixer's value columns with the tokens innermost, and ones below each group. -/
def values0 (P : FVec Ideal S65536x3840 .f32) : FVec Ideal S256x576x256 .bf16 :=
  truncf .bf16 (shapeCast _ (pad S256x4x144x256 ![0, 0, 0, 0] ![0, 0, 16, 0] ![0, 0, 0, 0] (transpose S256x4x128x256 [0, 2, 3, 1] (shapeCast _ (extractStridedSlice S65536x512 ![0, 1024] P slices_S65536x3840_S65536x512_0_1024) shapeCasts_S65536x512_S256x256x4x128) transposes_S256x256x4x128_S256x4x128x256_0_2_3_1) (constant S_ .f32 0x3F800000#32) pads_S256x4x128x256_S256x4x144x256_000_000_0160_000 h_S_) shapeCasts_S256x4x144x256_S256x576x256) bitsLt_bf16_f32

/-- The second mixer's. -/
def values1 (P : FVec Ideal S65536x3840 .f32) : FVec Ideal S256x576x256 .bf16 :=
  truncf .bf16 (shapeCast _ (pad S256x4x144x256 ![0, 0, 0, 0] ![0, 0, 16, 0] ![0, 0, 0, 0] (transpose S256x4x128x256 [0, 2, 3, 1] (shapeCast _ (extractStridedSlice S65536x512 ![0, 2560] P slices_S65536x3840_S65536x512_0_2560) shapeCasts_S65536x512_S256x256x4x128) transposes_S256x256x4x128_S256x4x128x256_0_2_3_1) (constant S_ .f32 0x3F800000#32) pads_S256x4x128x256_S256x4x144x256_000_000_0160_000 h_S_) shapeCasts_S256x4x144x256_S256x576x256) bitsLt_bf16_f32

/-- The third mixer's, one group only. -/
def values2 (P : FVec Ideal S65536x3840 .f32) : FVec Ideal S512x144x128 .bf16 :=
  truncf .bf16 (shapeCast _ (pad S512x1x144x128 ![0, 0, 0, 0] ![0, 0, 16, 0] ![0, 0, 0, 0] (transpose S512x1x128x128 [0, 2, 3, 1] (shapeCast _ (extractStridedSlice S65536x128 ![0, 3712] P slices_S65536x3840_S65536x128_0_3712) shapeCasts_S65536x128_S512x128x1x128) transposes_S512x128x1x128_S512x1x128x128_0_2_3_1) (constant S_ .f32 0x3F800000#32) pads_S512x1x128x128_S512x1x144x128_000_000_0160_000 h_S_) shapeCasts_S512x1x144x128_S512x144x128) bitsLt_bf16_f32

theorem prod_at (n : FVec Ideal S65536x1024 .f32) (w : FVec Ideal S1024x3840 .f32) (r : Fin 65536) (j : Fin 3840) :
    prod n w (ix2 r j) = ∑ k : Fin 1024, n (ix2 r k) * w (ix2 k j) := by
  pointwise [prod]

theorem values0_at (P : FVec Ideal S65536x3840 .f32) (a : Fin 256) (p : Fin 4) (l : Fin 144) (q : Fin 256) :
    values0 P (ix3 a ⟨144*p+l, by omega⟩ q) = if h : (l : ℕ) < 128 then P (ix2 ⟨256 * a + q, by omega⟩ ⟨1024 + (128 * p + l), by omega⟩) else (1 : EReal) := by
  pointwise [values0]
  simp only [Nat.mul_comm]

theorem values1_at (P : FVec Ideal S65536x3840 .f32) (a : Fin 256) (p : Fin 4) (l : Fin 144) (q : Fin 256) :
    values1 P (ix3 a ⟨144*p+l, by omega⟩ q) = if h : (l : ℕ) < 128 then P (ix2 ⟨256 * a + q, by omega⟩ ⟨2560 + (128 * p + l), by omega⟩) else (1 : EReal) := by
  pointwise [values1]
  simp only [Nat.mul_comm]

theorem values2_at (P : FVec Ideal S65536x3840 .f32) (a : Fin 512) (l : Fin 144) (q : Fin 128) :
    values2 P (ix3 a l q) = if h : (l : ℕ) < 128 then P (ix2 ⟨128 * a + q, by omega⟩ ⟨3712 + l, by omega⟩) else (1 : EReal) := by
  pointwise [values2]
  simp only [Nat.mul_comm]

variable (x0 : FVec Ideal S65536x1024 .f32) (x1 : FVec Ideal S1024 .f32) (x2 : FVec Ideal S1024x3840 .f32)

theorem proj_at (r : Fin 65536) (j : Fin 3840) : prod (Cert.Reference2Ideal.Ffn.norm x0 x1) x2 (ix2 r j) = proj x0 x1 x2 r j := by
  refine (prod_at _ _ r j).trans ?_
  unfold proj
  refine Finset.sum_congr rfl fun k _ => ?_
  rw [Cert.Reference2Ideal.Ffn.norm_at]

theorem ref0 : truncf .bf16 (prod (Cert.Reference2Ideal.Ffn.norm x0 x1) x2) bitsLt_bf16_f32 = fun i : (⟨2, ![65536, 3840]⟩ : Shape).Idx => proj x0 x1 x2 (i 0) (i 1) := by
  funext i
  obtain ⟨r, j, hi⟩ : ∃ (r : Fin 65536) (j : Fin 3840), i = ix2 r j := ⟨i 0, i 1, by funext a; fin_cases a <;> rfl⟩
  rw [hi]
  exact proj_at x0 x1 x2 r j

theorem row_split (y : S256x576x256.Idx) : ∃ (a : Fin 256) (p : Fin 4) (l : Fin 144) (q : Fin 256), y = ix3 a ⟨144 * p + l, by omega⟩ q := by
  have b : (y 1 : ℕ) < 576 := (y 1).isLt
  refine ⟨y 0, ⟨(y 1 : ℕ) / 144, by omega⟩, ⟨(y 1 : ℕ) % 144, by omega⟩, y 2, ?_⟩
  funext x
  fin_cases x
  · rfl
  · exact Fin.ext (by show (y 1 : ℕ) = 144 * ((y 1 : ℕ) / 144) + (y 1 : ℕ) % 144; omega)
  · rfl

theorem ref1 : values0 (prod (Cert.Reference2Ideal.Ffn.norm x0 x1) x2) = fun i : (⟨3, ![256, 576, 256]⟩ : Shape).Idx => vals x0 x1 x2 1024 (by decide) (i 0) (i 1) (i 2) := by
  funext i
  obtain ⟨a, p, l, q, rfl⟩ := row_split i
  refine (values0_at _ a p l q).trans (Eq.trans ?_ (vals_at x0 x1 x2 1024 (by decide) a p l q).symm)
  exact dite_congr rfl (fun h => proj_at x0 x1 x2 _ _) fun _ => rfl

theorem ref2 : values1 (prod (Cert.Reference2Ideal.Ffn.norm x0 x1) x2) = fun i : (⟨3, ![256, 576, 256]⟩ : Shape).Idx => vals x0 x1 x2 2560 (by decide) (i 0) (i 1) (i 2) := by
  funext i
  obtain ⟨a, p, l, q, rfl⟩ := row_split i
  refine (values1_at _ a p l q).trans (Eq.trans ?_ (vals_at x0 x1 x2 2560 (by decide) a p l q).symm)
  exact dite_congr rfl (fun h => proj_at x0 x1 x2 _ _) fun _ => rfl

theorem ref3 : values2 (prod (Cert.Reference2Ideal.Ffn.norm x0 x1) x2) = fun i : (⟨3, ![512, 144, 128]⟩ : Shape).Idx => vals' x0 x1 x2 (i 0) (i 1) (i 2) := by
  funext i
  obtain ⟨a, l, q, hi⟩ : ∃ (a : Fin 512) (l : Fin 144) (q : Fin 128), i = ix3 a l q := ⟨i 0, i 1, i 2, by funext a; fin_cases a <;> rfl⟩
  rw [hi]
  refine (values2_at _ a l q).trans ?_
  exact dite_congr rfl (fun h => proj_at x0 x1 x2 _ _) fun _ => rfl

end Cert.Reference5Ideal.Inproj

namespace Cert.Proof

open Cert.Reference5Ideal.Inproj Idealize.ShloMosaic Idealize.ShloMosaic.TcCoe Idealize.SL.Sem

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem preserves5 : Cert.preserves_Kernel5_Kernel5Ideal := trivial

/-- Both programs end with the projection of the same arguments, and its value columns in the same order. -/
theorem algebraic5 : Cert.algebraic_Kernel5Ideal_Reference5Ideal := by
  intro m ρ m' ρ' hpre hagree
  refine ⟨_, _, _, _, Cert.Kernel5Ideal.Value.run_blocks m ρ, ?_⟩
  refine (θ_run Cert.Reference5Ideal.defs _ _).mono (fun _ h c => ⟨(h c).1.trans ?_, (h c).2.1.trans ?_, (h c).2.2.1.trans ?_, (h c).2.2.2.1.trans ?_, (h c).2.2.2.2⟩)
    (Cert.Reference5Ideal.Value.run (F := Ideal) m' ρ')
  all_goals obtain ⟨a0, a1, a2⟩ := hagree c
  · rw [a0, a1, a2]
    exact Eq.trans (ref0 _ _ _) (Cert.Kernel5Ideal.Inproj.final4 m c).symm
  · rw [a0, a1, a2]
    exact Eq.trans (ref1 _ _ _) (Cert.Kernel5Ideal.Inproj.final5 m c).symm
  · rw [a0, a1, a2]
    exact Eq.trans (ref2 _ _ _) (Cert.Kernel5Ideal.Inproj.final6 m c).symm
  · rw [a0, a1, a2]
    exact Eq.trans (ref3 _ _ _) (Cert.Kernel5Ideal.Inproj.final7 m c).symm

end Cert.Proof

end
-- ==== Proof.lean ====
module

public import proofs.«01_k».proof.Defs
public import proofs.«01_k».proof.Proof.Algebraic
public import proofs.«01_k».proof.Proof.Ffn
public import proofs.«01_k».proof.Proof.FfnFinal
public import proofs.«01_k».proof.Proof.Merge
public import proofs.«01_k».proof.Proof.Inproj
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Pre_finite.Gen.facts,
    frame_p, frame_pi, frame_pi_finite, frame_ri, frame_ri_finite, frame_p2, frame_pi2, frame_ri2, frame_p3, frame_pi3, frame_ri3,
    frame_p4, frame_pi4, frame_ri4, frame_p5, frame_pi5, frame_ri5,
    preserves, algebraic, preserves2, algebraic2, preserves3, algebraic3, preserves4, algebraic4, preserves5, algebraic5⟩

end Cert.Proof

end
